-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_values)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v53)) (v4 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_values) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_v74) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x5000x16 : Shape := ⟨3, ![8, 5000, 16]⟩
abbrev S8x5000x13x2 : Shape := ⟨4, ![8, 5000, 13, 2]⟩
abbrev S8x5000x360 : Shape := ⟨3, ![8, 5000, 360]⟩
abbrev S8x2 : Shape := ⟨2, ![8, 2]⟩
abbrev S8x80000 : Shape := ⟨2, ![8, 80000]⟩
abbrev S8x400 : Shape := ⟨2, ![8, 400]⟩
abbrev S_ : Shape := ⟨0, ![]⟩
abbrev S8 : Shape := ⟨1, ![8]⟩
abbrev S8x1 : Shape := ⟨2, ![8, 1]⟩
abbrev S8x400x1 : Shape := ⟨3, ![8, 400, 1]⟩
abbrev S8x400x2 : Shape := ⟨3, ![8, 400, 2]⟩
abbrev S8x400x13x2 : Shape := ⟨4, ![8, 400, 13, 2]⟩
abbrev S8x400x360 : Shape := ⟨3, ![8, 400, 360]⟩
abbrev S8x400x4 : Shape := ⟨3, ![8, 400, 4]⟩
abbrev S8x13 : Shape := ⟨2, ![8, 13]⟩
abbrev S8x1x13x1 : Shape := ⟨4, ![8, 1, 13, 1]⟩

abbrev nBuf : Space → Nat
  | .hbm => 200
  | .vmem => 2
  | .smem => 0
  | _ => 0

abbrev hbmTy0_0 (i : Nat) : BufTy := match i % 128 with
  | 0 => ⟨S8x5000x16, .f32⟩
  | 1 => ⟨S8x5000x13x2, .f32⟩
  | 2 => ⟨S8x5000x360, .f32⟩
  | 3 => ⟨S8x2, .f32⟩
  | 4 => ⟨S8x5000x16, .f32⟩
  | 5 => ⟨S8x80000, .f32⟩
  | 6 => ⟨S8x400, .f32⟩
  | 7 => ⟨S8x400, .i32⟩
  | 8 => ⟨S_, .i32⟩
  | 9 => ⟨S_, .i32⟩
  | 10 => ⟨S8x400, .i32⟩
  | 11 => ⟨S8x400, .i32⟩
  | 12 => ⟨S8x400, .i32⟩
  | 13 => ⟨S_, .i32⟩
  | 14 => ⟨S8x400, .i32⟩
  | 15 => ⟨S8x400, .i1⟩
  | 16 => ⟨S8x400, .i32⟩
  | 17 => ⟨S8x400, .i32⟩
  | 18 => ⟨S_, .i32⟩
  | 19 => ⟨S8x400, .i32⟩
  | 20 => ⟨S8x400, .i1⟩
  | 21 => ⟨S8x400, .i1⟩
  | 22 => ⟨S_, .i32⟩
  | 23 => ⟨S8x400, .i32⟩
  | 24 => ⟨S8x400, .i32⟩
  | 25 => ⟨S8x400, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S8x400, .i32⟩
  | 33 => ⟨S8x400, .i32⟩
  | 34 => ⟨S_, .i32⟩
  | 35 => ⟨S8x400, .i32⟩
  | 36 => ⟨S8x400, .i1⟩
  | 37 => ⟨S_, .i32⟩
  | 38 => ⟨S8x400, .i32⟩
  | 39 => ⟨S8x400, .i1⟩
  | 40 => ⟨S_, .i32⟩
  | 41 => ⟨S_, .i1⟩
  | 42 => ⟨S8x400, .i1⟩
  | 43 => ⟨S8x400, .i1⟩
  | 44 => ⟨S8x400, .i1⟩
  | 45 => ⟨S8x400, .i32⟩
  | 46 => ⟨S8x400, .i32⟩
  | 47 => ⟨S8x400, .i32⟩
  | 48 => ⟨S8, .i32⟩
  | 49 => ⟨S8x1, .i32⟩
  | 50 => ⟨S_, .i32⟩
  | 51 => ⟨S8x1, .i32⟩
  | 52 => ⟨S8x1, .i1⟩
  | 53 => ⟨S_, .i32⟩
  | 54 => ⟨S8x1, .i32⟩
  | 55 => ⟨S8x1, .i32⟩
  | 56 => ⟨S8x1, .i32⟩
  | 57 => ⟨S_, .i32⟩
  | 58 => ⟨S8x400, .i32⟩
  | 59 => ⟨S8x400, .i1⟩
  | 60 => ⟨S_, .i32⟩
  | 61 => ⟨S8x400, .i32⟩
  | 62 => ⟨S8x400, .i32⟩
  | 63 => ⟨S8x400, .i32⟩
  | 64 => ⟨S8x400, .i32⟩
  | 65 => ⟨S8x400x1, .i32⟩
  | 66 => ⟨S8x400x1, .i32⟩
  | 67 => ⟨S8x400x2, .i32⟩
  | 68 => ⟨S8x400x13x2, .f32⟩
  | 69 => ⟨S_, .i32⟩
  | 70 => ⟨S8x1, .i32⟩
  | 71 => ⟨S8x1, .i1⟩
  | 72 => ⟨S_, .i32⟩
  | 73 => ⟨S8x1, .i32⟩
  | 74 => ⟨S8x1, .i32⟩
  | 75 => ⟨S8x1, .i32⟩
  | 76 => ⟨S_, .i32⟩
  | 77 => ⟨S8x400, .i32⟩
  | 78 => ⟨S8x400, .i1⟩
  | 79 => ⟨S_, .i32⟩
  | 80 => ⟨S8x400, .i32⟩
  | 81 => ⟨S8x400, .i32⟩
  | 82 => ⟨S8x400, .i32⟩
  | 83 => ⟨S8x400, .i32⟩
  | 84 => ⟨S8x400x1, .i32⟩
  | 85 => ⟨S8x400x1, .i32⟩
  | 86 => ⟨S8x400x2, .i32⟩
  | 87 => ⟨S8x400x360, .f32⟩
  | 88 => ⟨S8x400x360, .f32⟩
  | 89 => ⟨S8x400x360, .f32⟩
  | 90 => ⟨S_, .f32⟩
  | 91 => ⟨S8x400x360, .f32⟩
  | 92 => ⟨S8x400x360, .f32⟩
  | 93 => ⟨S_, .f32⟩
  | 94 => ⟨S8x400x360, .f32⟩
  | 95 => ⟨S8x400x360, .f32⟩
  | 96 => ⟨S8x400x360, .i32⟩
  | 97 => ⟨S_, .f32⟩
  | 98 => ⟨S_, .i32⟩
  | 99 => ⟨S8x400, .f32⟩
  | 100 => ⟨S8x400, .i32⟩
  | 101 => ⟨S8x400x1, .i32⟩
  | 102 => ⟨S_, .i32⟩
  | 103 => ⟨S8x400x1, .i32⟩
  | 104 => ⟨S8x400x1, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S8x400x1, .i32⟩
  | 112 => ⟨S8x400x1, .i32⟩
  | 113 => ⟨S_, .i32⟩
  | 114 => ⟨S8x400x1, .i32⟩
  | 115 => ⟨S8x400x1, .i1⟩
  | 116 => ⟨S_, .i32⟩
  | 117 => ⟨S8x400x1, .i32⟩
  | 118 => ⟨S8x400x1, .i1⟩
  | 119 => ⟨S_, .i32⟩
  | 120 => ⟨S_, .i1⟩
  | 121 => ⟨S8x400x1, .i1⟩
  | 122 => ⟨S8x400x1, .i1⟩
  | 123 => ⟨S8x400x1, .i1⟩
  | 124 => ⟨S8x400x1, .i32⟩
  | 125 => ⟨S8x400x1, .i32⟩
  | 126 => ⟨S8x400x1, .i32⟩
  | 127 => ⟨S_, .i32⟩
  | _ => ⟨S8x5000x16, .f32⟩

abbrev hbmTy0_1 (i : Nat) : BufTy := match i % 128 with
  | 0 => ⟨S8x400x1, .i32⟩
  | 1 => ⟨S8x400x1, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S8x400x1, .i32⟩
  | 9 => ⟨S8x400x1, .i32⟩
  | 10 => ⟨S_, .i32⟩
  | 11 => ⟨S8x400x1, .i32⟩
  | 12 => ⟨S8x400x1, .i1⟩
  | 13 => ⟨S_, .i32⟩
  | 14 => ⟨S8x400x1, .i32⟩
  | 15 => ⟨S8x400x1, .i1⟩
  | 16 => ⟨S_, .i32⟩
  | 17 => ⟨S_, .i1⟩
  | 18 => ⟨S8x400x1, .i1⟩
  | 19 => ⟨S8x400x1, .i1⟩
  | 20 => ⟨S8x400x1, .i1⟩
  | 21 => ⟨S8x400x1, .i32⟩
  | 22 => ⟨S8x400x1, .i32⟩
  | 23 => ⟨S8x400x1, .i32⟩
  | 24 => ⟨S_, .i32⟩
  | 25 => ⟨S8x400x1, .i32⟩
  | 26 => ⟨S8x400x1, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S8x400x1, .i32⟩
  | 34 => ⟨S8x400x1, .i32⟩
  | 35 => ⟨S_, .i32⟩
  | 36 => ⟨S8x400x1, .i32⟩
  | 37 => ⟨S8x400x1, .i1⟩
  | 38 => ⟨S_, .i32⟩
  | 39 => ⟨S8x400x1, .i32⟩
  | 40 => ⟨S8x400x1, .i1⟩
  | 41 => ⟨S_, .i32⟩
  | 42 => ⟨S_, .i1⟩
  | 43 => ⟨S8x400x1, .i1⟩
  | 44 => ⟨S8x400x1, .i1⟩
  | 45 => ⟨S8x400x1, .i1⟩
  | 46 => ⟨S8x400x1, .i32⟩
  | 47 => ⟨S8x400x1, .i32⟩
  | 48 => ⟨S8x400x1, .i32⟩
  | 49 => ⟨S8x400x4, .i32⟩
  | 50 => ⟨S8x1, .f32⟩
  | 51 => ⟨S8, .f32⟩
  | 52 => ⟨S8x1, .f32⟩
  | 53 => ⟨S8x1, .f32⟩
  | 54 => ⟨S8x1, .f32⟩
  | 55 => ⟨S8x1, .f32⟩
  | 56 => ⟨S8x1, .f32⟩
  | 57 => ⟨S8x1, .f32⟩
  | 58 => ⟨S8x1, .f32⟩
  | 59 => ⟨S8x1, .f32⟩
  | 60 => ⟨S8x1, .f32⟩
  | 61 => ⟨S8x1, .f32⟩
  | 62 => ⟨S8x1, .f32⟩
  | 63 => ⟨S8x1, .f32⟩
  | 64 => ⟨S8x1, .f32⟩
  | 65 => ⟨S8x13, .f32⟩
  | 66 => ⟨S8x1x13x1, .f32⟩
  | 67 => ⟨S8x400x13x2, .f32⟩
  | 68 => ⟨S8x400x13x2, .f32⟩
  | 69 => ⟨S_, .f32⟩
  | 70 => ⟨S8x400, .f32⟩
  | 71 => ⟨S8x400, .i1⟩
  | _ => ⟨S8x5000x16, .f32⟩

abbrev hbmTy (i : Nat) : BufTy := match i / 128 with
  | 0 => hbmTy0_0 i
  | 1 => hbmTy0_1 i
  | _ => ⟨S8x5000x16, .f32⟩

abbrev bufTy : (tb : Table) → Fin (tcTables nBuf tb) → BufTy
  | .hbm, ⟨i, _⟩ => hbmTy i
  | .local _ .vmem, ⟨0, _⟩ => ⟨S8x5000x16, .f32⟩
  | .local _ .vmem, ⟨1, _⟩ => ⟨S8x5000x16, .f32⟩
  | _, _ => ⟨S8x5000x16, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_c_3 : Ref sig .tc := ⟨.hbm, 57, rfl⟩
abbrev main_v11 : Ref sig .tc := ⟨.hbm, 58, rfl⟩
abbrev main_v12 : Ref sig .tc := ⟨.hbm, 59, rfl⟩
abbrev main_c_4 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_c_5 : Ref sig .tc := ⟨.hbm, 69, rfl⟩
abbrev main_v21 : Ref sig .tc := ⟨.hbm, 70, rfl⟩
abbrev main_v22 : Ref sig .tc := ⟨.hbm, 71, rfl⟩
abbrev main_c_6 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_7 : Ref sig .tc := ⟨.hbm, 76, rfl⟩
abbrev main_v26 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst : Ref sig .tc := ⟨.hbm, 90, rfl⟩
abbrev main_v38 : Ref sig .tc := ⟨.hbm, 91, rfl⟩
abbrev main_v39 : Ref sig .tc := ⟨.hbm, 92, rfl⟩
abbrev main_cst_9 : Ref sig .tc := ⟨.hbm, 93, rfl⟩
abbrev main_v40 : Ref sig .tc := ⟨.hbm, 94, rfl⟩
abbrev main_v41 : Ref sig .tc := ⟨.hbm, 95, rfl⟩
abbrev main_call2_v0 : Ref sig .tc := ⟨.hbm, 96, rfl⟩
abbrev main_call2_cst : Ref sig .tc := ⟨.hbm, 97, rfl⟩
abbrev main_call2_c : Ref sig .tc := ⟨.hbm, 98, rfl⟩
abbrev main_call2_v1_0 : Ref sig .tc := ⟨.hbm, 99, rfl⟩
abbrev main_v42 : Ref sig .tc := ⟨.hbm, 100, rfl⟩
abbrev main_v43 : Ref sig .tc := ⟨.hbm, 101, rfl⟩
abbrev main_c_10 : Ref sig .tc := ⟨.hbm, 102, rfl⟩
abbrev main_v44 : Ref sig .tc := ⟨.hbm, 103, rfl⟩
abbrev main_v45 : Ref sig .tc := ⟨.hbm, 104, rfl⟩
abbrev main_c_11 : Ref sig .tc := ⟨.hbm, 105, rfl⟩
abbrev main_call3_v0 : Ref sig .tc := ⟨.hbm, 106, rfl⟩
abbrev main_call3_c : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_1 : Ref sig .tc := ⟨.hbm, 113, rfl⟩
abbrev main_call3_v5 : Ref sig .tc := ⟨.hbm, 114, rfl⟩
abbrev main_call3_v6 : Ref sig .tc := ⟨.hbm, 115, rfl⟩
abbrev main_call3_c_2 : Ref sig .tc := ⟨.hbm, 116, rfl⟩
abbrev main_call3_v7 : Ref sig .tc := ⟨.hbm, 117, rfl⟩
abbrev main_call3_v8 : Ref sig .tc := ⟨.hbm, 118, rfl⟩
abbrev main_call3_c_3 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_v46 : Ref sig .tc := ⟨.hbm, 126, rfl⟩
abbrev main_c_12 : Ref sig .tc := ⟨.hbm, 127, rfl⟩
abbrev main_v47 : Ref sig .tc := ⟨.hbm, 128, rfl⟩
abbrev main_v48 : Ref sig .tc := ⟨.hbm, 129, rfl⟩
abbrev main_c_13 : Ref sig .tc := ⟨.hbm, 130, rfl⟩
abbrev main_call4_v0 : Ref sig .tc := ⟨.hbm, 131, rfl⟩
abbrev main_call4_c : Ref sig .tc := ⟨.hbm, 132, rfl⟩
abbrev main_call4_v1 : Ref sig .tc := ⟨.hbm, 133, rfl⟩
abbrev main_call4_c_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_c_1 : Ref sig .tc := ⟨.hbm, 138, rfl⟩
abbrev main_call4_v5 : Ref sig .tc := ⟨.hbm, 139, rfl⟩
abbrev main_call4_v6 : Ref sig .tc := ⟨.hbm, 140, rfl⟩
abbrev main_call4_c_2 : Ref sig .tc := ⟨.hbm, 141, rfl⟩
abbrev main_call4_v7 : Ref sig .tc := ⟨.hbm, 142, rfl⟩
abbrev main_call4_v8 : Ref sig .tc := ⟨.hbm, 143, rfl⟩
abbrev main_call4_c_3 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_v12 : Ref sig .tc := ⟨.hbm, 148, rfl⟩
abbrev main_call4_v13 : Ref sig .tc := ⟨.hbm, 149, rfl⟩
abbrev main_call4_v14 : Ref sig .tc := ⟨.hbm, 150, rfl⟩
abbrev main_v49 : Ref sig .tc := ⟨.hbm, 151, rfl⟩
abbrev main_c_14 : Ref sig .tc := ⟨.hbm, 152, rfl⟩
abbrev main_v50 : Ref sig .tc := ⟨.hbm, 153, rfl⟩
abbrev main_v51 : Ref sig .tc := ⟨.hbm, 154, rfl⟩
abbrev main_c_15 : Ref sig .tc := ⟨.hbm, 155, rfl⟩
abbrev main_call5_v0 : Ref sig .tc := ⟨.hbm, 156, rfl⟩
abbrev main_call5_c : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_c_1 : Ref sig .tc := ⟨.hbm, 163, rfl⟩
abbrev main_call5_v5 : Ref sig .tc := ⟨.hbm, 164, rfl⟩
abbrev main_call5_v6 : Ref sig .tc := ⟨.hbm, 165, rfl⟩
abbrev main_call5_c_2 : Ref sig .tc := ⟨.hbm, 166, rfl⟩
abbrev main_call5_v7 : Ref sig .tc := ⟨.hbm, 167, rfl⟩
abbrev main_call5_v8 : Ref sig .tc := ⟨.hbm, 168, rfl⟩
abbrev main_call5_c_3 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_v69 : Ref sig .tc := ⟨.hbm, 193, rfl⟩
abbrev main_v70 : Ref sig .tc := ⟨.hbm, 194, rfl⟩
abbrev main_v71 : Ref sig .tc := ⟨.hbm, 195, rfl⟩
abbrev main_v72 : Ref sig .tc := ⟨.hbm, 196, rfl⟩
abbrev main_cst_16 : Ref sig .tc := ⟨.hbm, 197, rfl⟩
abbrev main_v73 : Ref sig .tc := ⟨.hbm, 198, rfl⟩
abbrev main_v74 : Ref sig .tc := ⟨.hbm, 199, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x5000x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x5000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x5000x16 : Shape := ⟨3, ![8, 5000, 16]⟩
abbrev S8x5000x13x2 : Shape := ⟨4, ![8, 5000, 13, 2]⟩
abbrev S8x5000x360 : Shape := ⟨3, ![8, 5000, 360]⟩
abbrev S8x2 : Shape := ⟨2, ![8, 2]⟩
abbrev S_ : Shape := ⟨0, ![]⟩
abbrev S8x80000 : Shape := ⟨2, ![8, 80000]⟩
abbrev S8x400 : Shape := ⟨2, ![8, 400]⟩
abbrev S8 : Shape := ⟨1, ![8]⟩
abbrev S8x1 : Shape := ⟨2, ![8, 1]⟩
abbrev S8x400x1 : Shape := ⟨3, ![8, 400, 1]⟩
abbrev S8x400x2 : Shape := ⟨3, ![8, 400, 2]⟩
abbrev S8x400x13x2 : Shape := ⟨4, ![8, 400, 13, 2]⟩
abbrev S8x400x360 : Shape := ⟨3, ![8, 400, 360]⟩
abbrev S8x400x4 : Shape := ⟨3, ![8, 400, 4]⟩
abbrev S8x13 : Shape := ⟨2, ![8, 13]⟩
abbrev S8x1x13x1 : Shape := ⟨4, ![8, 1, 13, 1]⟩

abbrev nBuf : Space → Nat
  | .hbm => 225
  | .vmem => 0
  | .smem => 0
  | _ => 0

abbrev hbmTy0_0 (i : Nat) : BufTy := match i % 128 with
  | 0 => ⟨S8x5000x16, .f32⟩
  | 1 => ⟨S8x5000x13x2, .f32⟩
  | 2 => ⟨S8x5000x360, .f32⟩
  | 3 => ⟨S8x2, .f32⟩
  | 4 => ⟨S8x5000x16, .f32⟩
  | 5 => ⟨S8x5000x16, .f32⟩
  | 6 => ⟨S_, .f32⟩
  | 7 => ⟨S8x5000x16, .f32⟩
  | 8 => ⟨S8x5000x16, .f32⟩
  | 9 => ⟨S_, .f32⟩
  | 10 => ⟨S8x5000x16, .f32⟩
  | 11 => ⟨S8x5000x16, .f32⟩
  | 12 => ⟨S8x80000, .f32⟩
  | 13 => ⟨S8x400, .f32⟩
  | 14 => ⟨S8x400, .i32⟩
  | 15 => ⟨S_, .i32⟩
  | 16 => ⟨S_, .i32⟩
  | 17 => ⟨S8x400, .i32⟩
  | 18 => ⟨S8x400, .i32⟩
  | 19 => ⟨S8x400, .i32⟩
  | 20 => ⟨S_, .i32⟩
  | 21 => ⟨S8x400, .i32⟩
  | 22 => ⟨S8x400, .i1⟩
  | 23 => ⟨S8x400, .i32⟩
  | 24 => ⟨S8x400, .i32⟩
  | 25 => ⟨S_, .i32⟩
  | 26 => ⟨S8x400, .i32⟩
  | 27 => ⟨S8x400, .i1⟩
  | 28 => ⟨S8x400, .i1⟩
  | 29 => ⟨S_, .i32⟩
  | 30 => ⟨S8x400, .i32⟩
  | 31 => ⟨S8x400, .i32⟩
  | 32 => ⟨S8x400, .i32⟩
  | 33 => ⟨S_, .i32⟩
  | 34 => ⟨S_, .i32⟩
  | 35 => ⟨S8x400, .i32⟩
  | 36 => ⟨S8x400, .i32⟩
  | 37 => ⟨S8x400, .i32⟩
  | 38 => ⟨S_, .i32⟩
  | 39 => ⟨S8x400, .i32⟩
  | 40 => ⟨S8x400, .i1⟩
  | 41 => ⟨S8x400, .i32⟩
  | 42 => ⟨S8x400, .i32⟩
  | 43 => ⟨S_, .i32⟩
  | 44 => ⟨S8x400, .i32⟩
  | 45 => ⟨S8x400, .i1⟩
  | 46 => ⟨S8x400, .i1⟩
  | 47 => ⟨S_, .i32⟩
  | 48 => ⟨S8x400, .i32⟩
  | 49 => ⟨S8x400, .i32⟩
  | 50 => ⟨S8x400, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S8x400, .i32⟩
  | 58 => ⟨S8x400, .i32⟩
  | 59 => ⟨S_, .i32⟩
  | 60 => ⟨S8x400, .i32⟩
  | 61 => ⟨S8x400, .i1⟩
  | 62 => ⟨S_, .i32⟩
  | 63 => ⟨S8x400, .i32⟩
  | 64 => ⟨S8x400, .i1⟩
  | 65 => ⟨S_, .i32⟩
  | 66 => ⟨S_, .i1⟩
  | 67 => ⟨S8x400, .i1⟩
  | 68 => ⟨S8x400, .i1⟩
  | 69 => ⟨S8x400, .i1⟩
  | 70 => ⟨S8x400, .i32⟩
  | 71 => ⟨S8x400, .i32⟩
  | 72 => ⟨S8x400, .i32⟩
  | 73 => ⟨S8, .i32⟩
  | 74 => ⟨S8x1, .i32⟩
  | 75 => ⟨S_, .i32⟩
  | 76 => ⟨S8x1, .i32⟩
  | 77 => ⟨S8x1, .i1⟩
  | 78 => ⟨S_, .i32⟩
  | 79 => ⟨S8x1, .i32⟩
  | 80 => ⟨S8x1, .i32⟩
  | 81 => ⟨S8x1, .i32⟩
  | 82 => ⟨S_, .i32⟩
  | 83 => ⟨S8x400, .i32⟩
  | 84 => ⟨S8x400, .i1⟩
  | 85 => ⟨S_, .i32⟩
  | 86 => ⟨S8x400, .i32⟩
  | 87 => ⟨S8x400, .i32⟩
  | 88 => ⟨S8x400, .i32⟩
  | 89 => ⟨S8x400, .i32⟩
  | 90 => ⟨S8x400x1, .i32⟩
  | 91 => ⟨S8x400x1, .i32⟩
  | 92 => ⟨S8x400x2, .i32⟩
  | 93 => ⟨S8x400x13x2, .f32⟩
  | 94 => ⟨S_, .i32⟩
  | 95 => ⟨S8x1, .i32⟩
  | 96 => ⟨S8x1, .i1⟩
  | 97 => ⟨S_, .i32⟩
  | 98 => ⟨S8x1, .i32⟩
  | 99 => ⟨S8x1, .i32⟩
  | 100 => ⟨S8x1, .i32⟩
  | 101 => ⟨S_, .i32⟩
  | 102 => ⟨S8x400, .i32⟩
  | 103 => ⟨S8x400, .i1⟩
  | 104 => ⟨S_, .i32⟩
  | 105 => ⟨S8x400, .i32⟩
  | 106 => ⟨S8x400, .i32⟩
  | 107 => ⟨S8x400, .i32⟩
  | 108 => ⟨S8x400, .i32⟩
  | 109 => ⟨S8x400x1, .i32⟩
  | 110 => ⟨S8x400x1, .i32⟩
  | 111 => ⟨S8x400x2, .i32⟩
  | 112 => ⟨S8x400x360, .f32⟩
  | 113 => ⟨S8x400x360, .f32⟩
  | 114 => ⟨S8x400x360, .f32⟩
  | 115 => ⟨S_, .f32⟩
  | 116 => ⟨S8x400x360, .f32⟩
  | 117 => ⟨S8x400x360, .f32⟩
  | 118 => ⟨S_, .f32⟩
  | 119 => ⟨S8x400x360, .f32⟩
  | 120 => ⟨S8x400x360, .f32⟩
  | 121 => ⟨S8x400x360, .i32⟩
  | 122 => ⟨S_, .f32⟩
  | 123 => ⟨S_, .i32⟩
  | 124 => ⟨S8x400, .f32⟩
  | 125 => ⟨S8x400, .i32⟩
  | 126 => ⟨S8x400x1, .i32⟩
  | 127 => ⟨S_, .i32⟩
  | _ => ⟨S8x5000x16, .f32⟩

abbrev hbmTy0_1 (i : Nat) : BufTy := match i % 128 with
  | 0 => ⟨S8x400x1, .i32⟩
  | 1 => ⟨S8x400x1, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S8x400x1, .i32⟩
  | 9 => ⟨S8x400x1, .i32⟩
  | 10 => ⟨S_, .i32⟩
  | 11 => ⟨S8x400x1, .i32⟩
  | 12 => ⟨S8x400x1, .i1⟩
  | 13 => ⟨S_, .i32⟩
  | 14 => ⟨S8x400x1, .i32⟩
  | 15 => ⟨S8x400x1, .i1⟩
  | 16 => ⟨S_, .i32⟩
  | 17 => ⟨S_, .i1⟩
  | 18 => ⟨S8x400x1, .i1⟩
  | 19 => ⟨S8x400x1, .i1⟩
  | 20 => ⟨S8x400x1, .i1⟩
  | 21 => ⟨S8x400x1, .i32⟩
  | 22 => ⟨S8x400x1, .i32⟩
  | 23 => ⟨S8x400x1, .i32⟩
  | 24 => ⟨S_, .i32⟩
  | 25 => ⟨S8x400x1, .i32⟩
  | 26 => ⟨S8x400x1, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S8x400x1, .i32⟩
  | 34 => ⟨S8x400x1, .i32⟩
  | 35 => ⟨S_, .i32⟩
  | 36 => ⟨S8x400x1, .i32⟩
  | 37 => ⟨S8x400x1, .i1⟩
  | 38 => ⟨S_, .i32⟩
  | 39 => ⟨S8x400x1, .i32⟩
  | 40 => ⟨S8x400x1, .i1⟩
  | 41 => ⟨S_, .i32⟩
  | 42 => ⟨S_, .i1⟩
  | 43 => ⟨S8x400x1, .i1⟩
  | 44 => ⟨S8x400x1, .i1⟩
  | 45 => ⟨S8x400x1, .i1⟩
  | 46 => ⟨S8x400x1, .i32⟩
  | 47 => ⟨S8x400x1, .i32⟩
  | 48 => ⟨S8x400x1, .i32⟩
  | 49 => ⟨S_, .i32⟩
  | 50 => ⟨S8x400x1, .i32⟩
  | 51 => ⟨S8x400x1, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S8x400x1, .i32⟩
  | 59 => ⟨S8x400x1, .i32⟩
  | 60 => ⟨S_, .i32⟩
  | 61 => ⟨S8x400x1, .i32⟩
  | 62 => ⟨S8x400x1, .i1⟩
  | 63 => ⟨S_, .i32⟩
  | 64 => ⟨S8x400x1, .i32⟩
  | 65 => ⟨S8x400x1, .i1⟩
  | 66 => ⟨S_, .i32⟩
  | 67 => ⟨S_, .i1⟩
  | 68 => ⟨S8x400x1, .i1⟩
  | 69 => ⟨S8x400x1, .i1⟩
  | 70 => ⟨S8x400x1, .i1⟩
  | 71 => ⟨S8x400x1, .i32⟩
  | 72 => ⟨S8x400x1, .i32⟩
  | 73 => ⟨S8x400x1, .i32⟩
  | 74 => ⟨S8x400x4, .i32⟩
  | 75 => ⟨S8x1, .f32⟩
  | 76 => ⟨S8, .f32⟩
  | 77 => ⟨S8x1, .f32⟩
  | 78 => ⟨S8x1, .f32⟩
  | 79 => ⟨S8x1, .f32⟩
  | 80 => ⟨S8x1, .f32⟩
  | 81 => ⟨S8x1, .f32⟩
  | 82 => ⟨S8x1, .f32⟩
  | 83 => ⟨S8x1, .f32⟩
  | 84 => ⟨S8x1, .f32⟩
  | 85 => ⟨S8x1, .f32⟩
  | 86 => ⟨S8x1, .f32⟩
  | 87 => ⟨S8x1, .f32⟩
  | 88 => ⟨S8x1, .f32⟩
  | 89 => ⟨S8x1, .f32⟩
  | 90 => ⟨S8x13, .f32⟩
  | 91 => ⟨S8x1x13x1, .f32⟩
  | 92 => ⟨S8x400x13x2, .f32⟩
  | 93 => ⟨S8x400x13x2, .f32⟩
  | 94 => ⟨S_, .f32⟩
  | 95 => ⟨S8x400, .f32⟩
  | 96 => ⟨S8x400, .i1⟩
  | _ => ⟨S8x5000x16, .f32⟩

abbrev hbmTy (i : Nat) : BufTy := match i / 128 with
  | 0 => hbmTy0_0 i
  | 1 => hbmTy0_1 i
  | _ => ⟨S8x5000x16, .f32⟩

abbrev bufTy : (tb : Table) → Fin (tcTables nBuf tb) → BufTy
  | .hbm, ⟨i, _⟩ => hbmTy i
  | _, _ => ⟨S8x5000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v8 : Ref sig .tc := ⟨.hbm, 50, rfl⟩
abbrev main_c_2 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_c_3 : Ref sig .tc := ⟨.hbm, 75, rfl⟩
abbrev main_v12 : Ref sig .tc := ⟨.hbm, 76, rfl⟩
abbrev main_v13 : Ref sig .tc := ⟨.hbm, 77, rfl⟩
abbrev main_c_4 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_c_5 : Ref sig .tc := ⟨.hbm, 82, rfl⟩
abbrev main_v17 : Ref sig .tc := ⟨.hbm, 83, rfl⟩
abbrev main_v18 : Ref sig .tc := ⟨.hbm, 84, rfl⟩
abbrev main_c_6 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_c_7 : Ref sig .tc := ⟨.hbm, 94, rfl⟩
abbrev main_v27 : Ref sig .tc := ⟨.hbm, 95, rfl⟩
abbrev main_v28 : Ref sig .tc := ⟨.hbm, 96, rfl⟩
abbrev main_c_8 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_c_9 : Ref sig .tc := ⟨.hbm, 101, rfl⟩
abbrev main_v32 : Ref sig .tc := ⟨.hbm, 102, rfl⟩
abbrev main_v33 : Ref sig .tc := ⟨.hbm, 103, rfl⟩
abbrev main_c_10 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_cst_11 : Ref sig .tc := ⟨.hbm, 115, rfl⟩
abbrev main_v44 : Ref sig .tc := ⟨.hbm, 116, rfl⟩
abbrev main_v45 : Ref sig .tc := ⟨.hbm, 117, rfl⟩
abbrev main_cst_12 : Ref sig .tc := ⟨.hbm, 118, rfl⟩
abbrev main_v46 : Ref sig .tc := ⟨.hbm, 119, rfl⟩
abbrev main_v47 : Ref sig .tc := ⟨.hbm, 120, rfl⟩
abbrev main_call3_v0 : Ref sig .tc := ⟨.hbm, 121, rfl⟩
abbrev main_call3_cst : Ref sig .tc := ⟨.hbm, 122, rfl⟩
abbrev main_call3_c : Ref sig .tc := ⟨.hbm, 123, rfl⟩
abbrev main_call3_v1_0 : Ref sig .tc := ⟨.hbm, 124, rfl⟩
abbrev main_v48 : Ref sig .tc := ⟨.hbm, 125, rfl⟩
abbrev main_v49 : Ref sig .tc := ⟨.hbm, 126, rfl⟩
abbrev main_c_13 : Ref sig .tc := ⟨.hbm, 127, rfl⟩
abbrev main_v50 : Ref sig .tc := ⟨.hbm, 128, rfl⟩
abbrev main_v51 : Ref sig .tc := ⟨.hbm, 129, rfl⟩
abbrev main_c_14 : Ref sig .tc := ⟨.hbm, 130, rfl⟩
abbrev main_call4_v0 : Ref sig .tc := ⟨.hbm, 131, rfl⟩
abbrev main_call4_c : Ref sig .tc := ⟨.hbm, 132, rfl⟩
abbrev main_call4_v1 : Ref sig .tc := ⟨.hbm, 133, rfl⟩
abbrev main_call4_c_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_c_1 : Ref sig .tc := ⟨.hbm, 138, rfl⟩
abbrev main_call4_v5 : Ref sig .tc := ⟨.hbm, 139, rfl⟩
abbrev main_call4_v6 : Ref sig .tc := ⟨.hbm, 140, rfl⟩
abbrev main_call4_c_2 : Ref sig .tc := ⟨.hbm, 141, rfl⟩
abbrev main_call4_v7 : Ref sig .tc := ⟨.hbm, 142, rfl⟩
abbrev main_call4_v8 : Ref sig .tc := ⟨.hbm, 143, rfl⟩
abbrev main_call4_c_3 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_v12 : Ref sig .tc := ⟨.hbm, 148, rfl⟩
abbrev main_call4_v13 : Ref sig .tc := ⟨.hbm, 149, rfl⟩
abbrev main_call4_v14 : Ref sig .tc := ⟨.hbm, 150, rfl⟩
abbrev main_v52 : Ref sig .tc := ⟨.hbm, 151, rfl⟩
abbrev main_c_15 : Ref sig .tc := ⟨.hbm, 152, rfl⟩
abbrev main_v53 : Ref sig .tc := ⟨.hbm, 153, rfl⟩
abbrev main_v54 : Ref sig .tc := ⟨.hbm, 154, rfl⟩
abbrev main_c_16 : Ref sig .tc := ⟨.hbm, 155, rfl⟩
abbrev main_call5_v0 : Ref sig .tc := ⟨.hbm, 156, rfl⟩
abbrev main_call5_c : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_c_1 : Ref sig .tc := ⟨.hbm, 163, rfl⟩
abbrev main_call5_v5 : Ref sig .tc := ⟨.hbm, 164, rfl⟩
abbrev main_call5_v6 : Ref sig .tc := ⟨.hbm, 165, rfl⟩
abbrev main_call5_c_2 : Ref sig .tc := ⟨.hbm, 166, rfl⟩
abbrev main_call5_v7 : Ref sig .tc := ⟨.hbm, 167, rfl⟩
abbrev main_call5_v8 : Ref sig .tc := ⟨.hbm, 168, rfl⟩
abbrev main_call5_c_3 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_v55 : Ref sig .tc := ⟨.hbm, 176, rfl⟩
abbrev main_c_17 : Ref sig .tc := ⟨.hbm, 177, rfl⟩
abbrev main_v56 : Ref sig .tc := ⟨.hbm, 178, rfl⟩
abbrev main_v57 : Ref sig .tc := ⟨.hbm, 179, rfl⟩
abbrev main_c_18 : Ref sig .tc := ⟨.hbm, 180, rfl⟩
abbrev main_call6_v0 : Ref sig .tc := ⟨.hbm, 181, rfl⟩
abbrev main_call6_c : Ref sig .tc := ⟨.hbm, 182, rfl⟩
abbrev main_call6_v1 : Ref sig .tc := ⟨.hbm, 183, rfl⟩
abbrev main_call6_c_0 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_call6_c_1 : Ref sig .tc := ⟨.hbm, 188, rfl⟩
abbrev main_call6_v5 : Ref sig .tc := ⟨.hbm, 189, rfl⟩
abbrev main_call6_v6 : Ref sig .tc := ⟨.hbm, 190, rfl⟩
abbrev main_call6_c_2 : Ref sig .tc := ⟨.hbm, 191, rfl⟩
abbrev main_call6_v7 : Ref sig .tc := ⟨.hbm, 192, rfl⟩
abbrev main_call6_v8 : Ref sig .tc := ⟨.hbm, 193, rfl⟩
abbrev main_call6_c_3 : Ref sig .tc := ⟨.hbm, 194, rfl⟩
abbrev main_call6_v9 : Ref sig .tc := ⟨.hbm, 195, rfl⟩
abbrev main_call6_v10 : Ref sig .tc := ⟨.hbm, 196, rfl⟩
abbrev main_call6_v11 : Ref sig .tc := ⟨.hbm, 197, rfl⟩
abbrev main_call6_v12 : Ref sig .tc := ⟨.hbm, 198, rfl⟩
abbrev main_call6_v13 : Ref sig .tc := ⟨.hbm, 199, rfl⟩
abbrev main_call6_v14 : Ref sig .tc := ⟨.hbm, 200, rfl⟩
abbrev main_v58 : Ref sig .tc := ⟨.hbm, 201, rfl⟩
abbrev main_v59 : Ref sig .tc := ⟨.hbm, 202, rfl⟩
abbrev main_v60 : Ref sig .tc := ⟨.hbm, 203, rfl⟩
abbrev main_v61 : Ref sig .tc := ⟨.hbm, 204, rfl⟩
abbrev main_v62 : Ref sig .tc := ⟨.hbm, 205, rfl⟩
abbrev main_v63 : Ref sig .tc := ⟨.hbm, 206, rfl⟩
abbrev main_v64 : Ref sig .tc := ⟨.hbm, 207, rfl⟩
abbrev main_v65 : Ref sig .tc := ⟨.hbm, 208, rfl⟩
abbrev main_v66 : Ref sig .tc := ⟨.hbm, 209, rfl⟩
abbrev main_v67 : Ref sig .tc := ⟨.hbm, 210, rfl⟩
abbrev main_v68 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_v78 : Ref sig .tc := ⟨.hbm, 221, rfl⟩
abbrev main_cst_19 : Ref sig .tc := ⟨.hbm, 222, rfl⟩
abbrev main_v79 : Ref sig .tc := ⟨.hbm, 223, rfl⟩
abbrev main_v80 : Ref sig .tc := ⟨.hbm, 224, rfl⟩

abbrev nD : Nat := 1
abbrev τ : Topo := Topo.v7x

variable {F : FTy → Type} [FloatOps F]
-- ==== Proof.RefLine.lean ====
/- The run of the idealized reference: a straight line of host operations, listed here call by call, so that every
   buffer ends at those operations folded over the memory at the start. -/
module

public import proofs.«01_k».proof.ReferenceIdeal
public import proofs.«01_k».proof.Proof.Gen.ReferenceIdeal
public import Idealize.ShloMosaic.Lib.StableHlo.Run
public import Idealize.ShloMosaic.Lib.StableHlo.RunRead
public import Idealize.ShloMosaic.Lib.Quiescent
public import Idealize.ShloMosaic.Adequacy

@[expose] public section

set_option maxRecDepth 65536

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-- The type of the reference's host programs. -/
abbrev HostProg (F : FTy → Type) [FloatOps F] :=
  Prog (TpuEff nD τ sig (Elt F) (Pipeline.Sig Λ₀ (Fin 0) fun p => (pcfgs (F := F) p).Adm) .tc) PUnit

/-- The operations of one call of `fn_where`: the select of a quotient. -/
abbrev whereOps (arg0 : StableHlo.TRef sig ⟨S8x400, .i1⟩) (arg1 : StableHlo.TRef sig ⟨S8x400, .i32⟩) (arg2 : StableHlo.TRef sig ⟨S8x400, .i32⟩) (φ : fn_where.Bufs) : List (HloOp τ sig (Elt F)) :=
  [ StableHlo.TRef.ternary arg0 arg1 arg2 φ.v0 select ]

/-- The operations of one call of `fn_floor_divide`: the quotient rounded down. -/
abbrev floorDivideOps (arg0 : StableHlo.TRef sig ⟨S8x400, .i32⟩) (arg1 : StableHlo.TRef sig ⟨S_, .i32⟩) (φ : fn_floor_divide.Bufs) : List (HloOp τ sig (Elt F)) :=
  [ StableHlo.TRef.unary arg1 φ.v0 id,
    StableHlo.TRef.unary φ.v0 φ.v1 (broadcastInDim S8x400 ![] bcast_S_S8x400),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S8x400 ![] bcast_S_S8x400),
    StableHlo.TRef.binary φ.v3 φ.v5 φ.v6 (cmpi .ne),
    StableHlo.TRef.unary φ.v0 φ.v7 (broadcastInDim S8x400 ![] bcast_S_S8x400),
    StableHlo.TRef.binary arg0 φ.v7 φ.v8 Host.remsi,
    StableHlo.TRef.nullary φ.c (constantI S_ 32 0#32),
    StableHlo.TRef.unary φ.c φ.v9 (broadcastInDim S8x400 ![] bcast_S_S8x400),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S8x400 ![] bcast_S_S8x400),
    StableHlo.TRef.binary φ.v2 φ.v12 φ.v13 subi ] ++
  whereOps φ.v11 φ.v13 φ.v2 φ.call0

/-- The operations of one call of `fn_where_0`: the select of a divisor. -/
abbrev whereScalarOps (arg0 : StableHlo.TRef sig ⟨S_, .i1⟩) (arg1 : StableHlo.TRef sig ⟨S_, .i32⟩) (arg2 : StableHlo.TRef sig ⟨S_, .i32⟩) (φ : fn_where_0.Bufs) : List (HloOp τ sig (Elt F)) :=
  [ StableHlo.TRef.ternary arg0 arg1 arg2 φ.v0 select ]

/-- The operations of one call of `fn_remainder`: the remainder of the divisor's sign. -/
abbrev remainderOps (arg0 : StableHlo.TRef sig ⟨S8x400, .i32⟩) (arg1 : StableHlo.TRef sig ⟨S_, .i32⟩) (φ : fn_remainder.Bufs) : List (HloOp τ sig (Elt F)) :=
  [ StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32) ] ++
  whereScalarOps φ.v1 φ.c_0 φ.v0 φ.call0 ++
  [ StableHlo.TRef.unary φ.call0.v0 φ.v3 (broadcastInDim S8x400 ![] bcast_S_S8x400),
    StableHlo.TRef.binary arg0 φ.v3 φ.v4 Host.remsi,
    StableHlo.TRef.nullary φ.c_1 (constantI S_ 32 0#32),
    StableHlo.TRef.unary φ.c_1 φ.v5 (broadcastInDim S8x400 ![] bcast_S_S8x400),
    StableHlo.TRef.binary φ.v4 φ.v5 φ.v6 (cmpi .ne),
    StableHlo.TRef.nullary φ.c_2 (constantI S_ 32 0#32),
    StableHlo.TRef.unary φ.c_2 φ.v7 (broadcastInDim S8x400 ![] bcast_S_S8x400),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S8x400 ![] bcast_S_S8x400),
    StableHlo.TRef.binary φ.v8 φ.v10 φ.v11 (cmpi .ne),
    StableHlo.TRef.binary φ.v11 φ.v6 φ.v12 andi,
    StableHlo.TRef.unary φ.call0.v0 φ.v13 (broadcastInDim S8x400 ![] bcast_S_S8x400),
    StableHlo.TRef.binary φ.v4 φ.v13 φ.v14 addi,
    StableHlo.TRef.ternary φ.v12 φ.v14 φ.v4 φ.v15 select ]

/-- The operations of one call of `fn_argmax`: the position of the first greatest entry of each row. -/
abbrev argmaxOps (arg0 : StableHlo.TRef sig ⟨S8x400x360, .f32⟩) (φ : fn_argmax.Bufs) : List (HloOp τ sig (Elt F)) :=
  [ StableHlo.TRef.nullary φ.v0 (iotaInDim S8x400x360 32 2),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S8x400x360_S8x400_d2 h_S_ j).1),
    StableHlo.TRef.quaternary arg0 φ.v0 φ.cst φ.c φ.v1_1 (fun x y u v j => (Host.argReduce reducer_argmax_f32_i32 x y u v reducesTo_S8x400x360_S8x400_d2 h_S_ j).2) ]

/-- The operations of one call of `fn_remainder_1`: the remainder of the divisor's sign, over an [8, 400, 1] array. -/
abbrev remainderColOps (arg0 : StableHlo.TRef sig ⟨S8x400x1, .i32⟩) (arg1 : StableHlo.TRef sig ⟨S_, .i32⟩) (φ : fn_remainder_1.Bufs) : List (HloOp τ sig (Elt F)) :=
  [ StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32) ] ++
  whereScalarOps φ.v1 φ.c_0 φ.v0 φ.call0 ++
  [ StableHlo.TRef.unary φ.call0.v0 φ.v3 (broadcastInDim S8x400x1 ![] bcast_S_S8x400x1),
    StableHlo.TRef.binary arg0 φ.v3 φ.v4 Host.remsi,
    StableHlo.TRef.nullary φ.c_1 (constantI S_ 32 0#32),
    StableHlo.TRef.unary φ.c_1 φ.v5 (broadcastInDim S8x400x1 ![] bcast_S_S8x400x1),
    StableHlo.TRef.binary φ.v4 φ.v5 φ.v6 (cmpi .ne),
    StableHlo.TRef.nullary φ.c_2 (constantI S_ 32 0#32),
    StableHlo.TRef.unary φ.c_2 φ.v7 (broadcastInDim S8x400x1 ![] bcast_S_S8x400x1),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S8x400x1 ![] bcast_S_S8x400x1),
    StableHlo.TRef.binary φ.v8 φ.v10 φ.v11 (cmpi .ne),
    StableHlo.TRef.binary φ.v11 φ.v6 φ.v12 andi,
    StableHlo.TRef.unary φ.call0.v0 φ.v13 (broadcastInDim S8x400x1 ![] bcast_S_S8x400x1),
    StableHlo.TRef.binary φ.v4 φ.v13 φ.v14 addi,
    StableHlo.TRef.ternary φ.v12 φ.v14 φ.v4 φ.v15 select ]

/-- The class scores, the 400 greatest of them, and each one's query and class. -/
abbrev rowsOps : List (HloOp τ sig (Elt F)) :=
  [ StableHlo.unary main_arg0 main_v0 (Host.negf : (⟨S8x5000x16, .f32⟩ : BufTy).Contents (Elt F) → (⟨S8x5000x16, .f32⟩ : BufTy).Contents (Elt F)),
    StableHlo.unary main_v0 main_v1 (Host.exp : (⟨S8x5000x16, .f32⟩ : BufTy).Contents (Elt F) → (⟨S8x5000x16, .f32⟩ : BufTy).Contents (Elt F)),
    StableHlo.nullary main_cst (constant S_ .f32 0x3F800000#32),
    StableHlo.unary main_cst main_v2 (broadcastInDim S8x5000x16 ![] bcast_S_S8x5000x16 : (⟨S_, .f32⟩ : BufTy).Contents (Elt F) → (⟨S8x5000x16, .f32⟩ : BufTy).Contents (Elt F)),
    StableHlo.binary main_v2 main_v1 main_v3 (addf : (⟨S8x5000x16, .f32⟩ : BufTy).Contents (Elt F) → (⟨S8x5000x16, .f32⟩ : BufTy).Contents (Elt F) → (⟨S8x5000x16, .f32⟩ : BufTy).Contents (Elt F)),
    StableHlo.nullary main_cst_0 (constant S_ .f32 0x3F800000#32),
    StableHlo.unary main_cst_0 main_v4 (broadcastInDim S8x5000x16 ![] bcast_S_S8x5000x16 : (⟨S_, .f32⟩ : BufTy).Contents (Elt F) → (⟨S8x5000x16, .f32⟩ : BufTy).Contents (Elt F)),
    StableHlo.binary main_v4 main_v3 main_v5 (Host.divf : (⟨S8x5000x16, .f32⟩ : BufTy).Contents (Elt F) → (⟨S8x5000x16, .f32⟩ : BufTy).Contents (Elt F) → (⟨S8x5000x16, .f32⟩ : BufTy).Contents (Elt F)),
    StableHlo.reshape main_v5 main_v6 (rfl : (.f32 : EltTy) = .f32) shapeCasts_S8x5000x16_S8x80000,
    StableHlo.unary main_v6 main_values ((fun x => (Host.topK S8x400 1 (FloatOps.cmpfTotal .gt) x sliceFits_S8x80000_S8x400).1) : (⟨S8x80000, .f32⟩ : BufTy).Contents (Elt F) → (⟨S8x400, .f32⟩ : BufTy).Contents (Elt F)),
    StableHlo.unary main_v6 main_indices ((fun x => (Host.topK S8x400 1 (FloatOps.cmpfTotal .gt) x sliceFits_S8x80000_S8x400).2) : (⟨S8x80000, .f32⟩ : BufTy).Contents (Elt F) → (⟨S8x400, .i32⟩ : BufTy).Contents (Elt F)),
    StableHlo.nullary main_c (constantI S_ 32 16#32) ] ++
  floorDivideOps (.of main_indices) (.of main_c) main_call0 ++
  [ StableHlo.nullary main_c_1 (constantI S_ 32 16#32) ] ++
  floorDivideOps (.of main_indices) (.of main_c_1) main_call1 ++
  [ StableHlo.nullary main_c_2 (constantI S_ 32 16#32) ] ++
  remainderOps (.of main_indices) (.of main_c_2) main_call2

/-- The polygons and the angle logits of the chosen queries, and the start of the angle scores. -/
abbrev gatherOps : List (HloOp τ sig (Elt F)) :=
  [ StableHlo.nullary main_v10 (iotaInDim S8 32 0),
    StableHlo.unary main_v10 main_v11 (broadcastInDim S8x1 ![0] bcast_S8_S8x1_0 : (⟨S8, .i32⟩ : BufTy).Contents (Elt F) → (⟨S8x1, .i32⟩ : BufTy).Contents (Elt F)),
    StableHlo.nullary main_c_3 (constantI S_ 32 0#32),
    StableHlo.unary main_c_3 main_v12 (broadcastInDim S8x1 ![] bcast_S_S8x1 : (⟨S_, .i32⟩ : BufTy).Contents (Elt F) → (⟨S8x1, .i32⟩ : BufTy).Contents (Elt F)),
    StableHlo.binary main_v11 main_v12 main_v13 (cmpi .slt : (⟨S8x1, .i32⟩ : BufTy).Contents (Elt F) → (⟨S8x1, .i32⟩ : BufTy).Contents (Elt F) → (⟨S8x1, .i1⟩ : BufTy).Contents (Elt F)),
    StableHlo.nullary main_c_4 (constantI S_ 32 8#32),
    StableHlo.unary main_c_4 main_v14 (broadcastInDim S8x1 ![] bcast_S_S8x1 : (⟨S_, .i32⟩ : BufTy).Contents (Elt F) → (⟨S8x1, .i32⟩ : BufTy).Contents (Elt F)),
    StableHlo.binary main_v11 main_v14 main_v15 (addi : (⟨S8x1, .i32⟩ : BufTy).Contents (Elt F) → (⟨S8x1, .i32⟩ : BufTy).Contents (Elt F) → (⟨S8x1, .i32⟩ : BufTy).Contents (Elt F)),
    StableHlo.ternary main_v13 main_v15 main_v11 main_v16 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_5 (constantI S_ 32 0#32),
    StableHlo.unary main_c_5 main_v17 (broadcastInDim S8x400 ![] bcast_S_S8x400 : (⟨S_, .i32⟩ : BufTy).Contents (Elt F) → (⟨S8x400, .i32⟩ : BufTy).Contents (Elt F)),
    StableHlo.binary main_v7 main_v17 main_v18 (cmpi .slt : (⟨S8x400, .i32⟩ : BufTy).Contents (Elt F) → (⟨S8x400, .i32⟩ : BufTy).Contents (Elt F) → (⟨S8x400, .i1⟩ : BufTy).Contents (Elt F)),
    StableHlo.nullary main_c_6 (constantI S_ 32 5000#32),
    StableHlo.unary main_c_6 main_v19 (broadcastInDim S8x400 ![] bcast_S_S8x400 : (⟨S_, .i32⟩ : BufTy).Contents (Elt F) → (⟨S8x400, .i32⟩ : BufTy).Contents (Elt F)),
    StableHlo.binary main_v7 main_v19 main_v20 (addi : (⟨S8x400, .i32⟩ : BufTy).Contents (Elt F) → (⟨S8x400, .i32⟩ : BufTy).Contents (Elt F) → (⟨S8x400, .i32⟩ : BufTy).Contents (Elt F)),
    StableHlo.ternary main_v18 main_v20 main_v7 main_v21 (select : (⟨S8x400, .i1⟩ : BufTy).Contents (Elt F) → (⟨S8x400, .i32⟩ : BufTy).Contents (Elt F) → (⟨S8x400, .i32⟩ : BufTy).Contents (Elt F) → (⟨S8x400, .i32⟩ : BufTy).Contents (Elt F)),
    StableHlo.unary main_v16 main_v22 (broadcastInDim S8x400 ![0, 1] bcast_S8x1_S8x400_0_1 : (⟨S8x1, .i32⟩ : BufTy).Contents (Elt F) → (⟨S8x400, .i32⟩ : BufTy).Contents (Elt F)),
    StableHlo.unary main_v22 main_v23 (broadcastInDim S8x400x1 ![0, 1] bcast_S8x400_S8x400x1_0_1 : (⟨S8x400, .i32⟩ : BufTy).Contents (Elt F) → (⟨S8x400x1, .i32⟩ : BufTy).Contents (Elt F)),
    StableHlo.unary main_v21 main_v24 (broadcastInDim S8x400x1 ![0, 1] bcast_S8x400_S8x400x1_0_1 : (⟨S8x400, .i32⟩ : BufTy).Contents (Elt F) → (⟨S8x400x1, .i32⟩ : BufTy).Contents (Elt F)),
    StableHlo.binary main_v23 main_v24 main_v25 ((fun a b => concatenate S8x400x2 2 [⟨S8x400x1, a⟩, ⟨S8x400x1, b⟩] concatenates_S8x400x1_S8x400x1_S8x400x2_d2) : (⟨S8x400x1, .i32⟩ : BufTy).Contents (Elt F) → (⟨S8x400x1, .i32⟩ : BufTy).Contents (Elt F) → (⟨S8x400x2, .i32⟩ : BufTy).Contents (Elt F)),
    StableHlo.binary main_arg1 main_v25 main_v26 ((fun x i => Host.gather gather_S8x5000x13x2_S8x400x2_S8x400x13x2_23_01_n_n_01_2_11132 x i) : (⟨S8x5000x13x2, .f32⟩ : BufTy).Contents (Elt F) → (⟨S8x400x2, .i32⟩ : BufTy).Contents (Elt F) → (⟨S8x400x13x2, .f32⟩ : BufTy).Contents (Elt F)),
    StableHlo.nullary main_c_7 (constantI S_ 32 0#32),
    StableHlo.unary main_c_7 main_v27 (broadcastInDim S8x1 ![] bcast_S_S8x1 : (⟨S_, .i32⟩ : BufTy).Contents (Elt F) → (⟨S8x1, .i32⟩ : BufTy).Contents (Elt F)),
    StableHlo.binary main_v11 main_v27 main_v28 (cmpi .slt : (⟨S8x1, .i32⟩ : BufTy).Contents (Elt F) → (⟨S8x1, .i32⟩ : BufTy).Contents (Elt F) → (⟨S8x1, .i1⟩ : BufTy).Contents (Elt F)),
    StableHlo.nullary main_c_8 (constantI S_ 32 8#32),
    StableHlo.unary main_c_8 main_v29 (broadcastInDim S8x1 ![] bcast_S_S8x1 : (⟨S_, .i32⟩ : BufTy).Contents (Elt F) → (⟨S8x1, .i32⟩ : BufTy).Contents (Elt F)),
    StableHlo.binary main_v11 main_v29 main_v30 (addi : (⟨S8x1, .i32⟩ : BufTy).Contents (Elt F) → (⟨S8x1, .i32⟩ : BufTy).Contents (Elt F) → (⟨S8x1, .i32⟩ : BufTy).Contents (Elt F)),
    StableHlo.ternary main_v28 main_v30 main_v11 main_v31 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_9 (constantI S_ 32 0#32),
    StableHlo.unary main_c_9 main_v32 (broadcastInDim S8x400 ![] bcast_S_S8x400 : (⟨S_, .i32⟩ : BufTy).Contents (Elt F) → (⟨S8x400, .i32⟩ : BufTy).Contents (Elt F)),
    StableHlo.binary main_v8 main_v32 main_v33 (cmpi .slt : (⟨S8x400, .i32⟩ : BufTy).Contents (Elt F) → (⟨S8x400, .i32⟩ : BufTy).Contents (Elt F) → (⟨S8x400, .i1⟩ : BufTy).Contents (Elt F)),
    StableHlo.nullary main_c_10 (constantI S_ 32 5000#32),
    StableHlo.unary main_c_10 main_v34 (broadcastInDim S8x400 ![] bcast_S_S8x400 : (⟨S_, .i32⟩ : BufTy).Contents (Elt F) → (⟨S8x400, .i32⟩ : BufTy).Contents (Elt F)),
    StableHlo.binary main_v8 main_v34 main_v35 (addi : (⟨S8x400, .i32⟩ : BufTy).Contents (Elt F) → (⟨S8x400, .i32⟩ : BufTy).Contents (Elt F) → (⟨S8x400, .i32⟩ : BufTy).Contents (Elt F)),
    StableHlo.ternary main_v33 main_v35 main_v8 main_v36 (select : (⟨S8x400, .i1⟩ : BufTy).Contents (Elt F) → (⟨S8x400, .i32⟩ : BufTy).Contents (Elt F) → (⟨S8x400, .i32⟩ : BufTy).Contents (Elt F) → (⟨S8x400, .i32⟩ : BufTy).Contents (Elt F)),
    StableHlo.unary main_v31 main_v37 (broadcastInDim S8x400 ![0, 1] bcast_S8x1_S8x400_0_1 : (⟨S8x1, .i32⟩ : BufTy).Contents (Elt F) → (⟨S8x400, .i32⟩ : BufTy).Contents (Elt F)),
    StableHlo.unary main_v37 main_v38 (broadcastInDim S8x400x1 ![0, 1] bcast_S8x400_S8x400x1_0_1 : (⟨S8x400, .i32⟩ : BufTy).Contents (Elt F) → (⟨S8x400x1, .i32⟩ : BufTy).Contents (Elt F)),
    StableHlo.unary main_v36 main_v39 (broadcastInDim S8x400x1 ![0, 1] bcast_S8x400_S8x400x1_0_1 : (⟨S8x400, .i32⟩ : BufTy).Contents (Elt F) → (⟨S8x400x1, .i32⟩ : BufTy).Contents (Elt F)),
    StableHlo.binary main_v38 main_v39 main_v40 ((fun a b => concatenate S8x400x2 2 [⟨S8x400x1, a⟩, ⟨S8x400x1, b⟩] concatenates_S8x400x1_S8x400x1_S8x400x2_d2) : (⟨S8x400x1, .i32⟩ : BufTy).Contents (Elt F) → (⟨S8x400x1, .i32⟩ : BufTy).Contents (Elt F) → (⟨S8x400x2, .i32⟩ : BufTy).Contents (Elt F)),
    StableHlo.binary main_arg2 main_v40 main_v41 ((fun x i => Host.gather gather_S8x5000x360_S8x400x2_S8x400x360_2_01_n_n_01_2_11360 x i) : (⟨S8x5000x360, .f32⟩ : BufTy).Contents (Elt F) → (⟨S8x400x2, .i32⟩ : BufTy).Contents (Elt F) → (⟨S8x400x360, .f32⟩ : BufTy).Contents (Elt F)),
    StableHlo.unary main_v41 main_v42 (Host.negf : (⟨S8x400x360, .f32⟩ : BufTy).Contents (Elt F) → (⟨S8x400x360, .f32⟩ : BufTy).Contents (Elt F)),
    StableHlo.unary main_v42 main_v43 (Host.exp : (⟨S8x400x360, .f32⟩ : BufTy).Contents (Elt F) → (⟨S8x400x360, .f32⟩ : BufTy).Contents (Elt F)),
    StableHlo.nullary main_cst_11 (constant S_ .f32 0x3F800000#32) ]

/-- The rest of the angle scores. -/
abbrev scoresOps : List (HloOp τ sig (Elt F)) :=
  [ StableHlo.unary main_cst_11 main_v44 (broadcastInDim S8x400x360 ![] bcast_S_S8x400x360 : (⟨S_, .f32⟩ : BufTy).Contents (Elt F) → (⟨S8x400x360, .f32⟩ : BufTy).Contents (Elt F)),
    StableHlo.binary main_v44 main_v43 main_v45 (addf : (⟨S8x400x360, .f32⟩ : BufTy).Contents (Elt F) → (⟨S8x400x360, .f32⟩ : BufTy).Contents (Elt F) → (⟨S8x400x360, .f32⟩ : BufTy).Contents (Elt F)),
    StableHlo.nullary main_cst_12 (constant S_ .f32 0x3F800000#32),
    StableHlo.unary main_cst_12 main_v46 (broadcastInDim S8x400x360 ![] bcast_S_S8x400x360 : (⟨S_, .f32⟩ : BufTy).Contents (Elt F) → (⟨S8x400x360, .f32⟩ : BufTy).Contents (Elt F)),
    StableHlo.binary main_v46 main_v45 main_v47 (Host.divf : (⟨S8x400x360, .f32⟩ : BufTy).Contents (Elt F) → (⟨S8x400x360, .f32⟩ : BufTy).Contents (Elt F) → (⟨S8x400x360, .f32⟩ : BufTy).Contents (Elt F)) ]

/-- The best angle of each chosen query, and it turned by 90, 180 and 270 degrees. -/
abbrev anglesOps : List (HloOp τ sig (Elt F)) :=
  argmaxOps (.of main_v47) main_call3 ++
  [ StableHlo.unary main_v48 main_v49 (broadcastInDim S8x400x1 ![0, 1] bcast_S8x400_S8x400x1_0_1 : (⟨S8x400, .i32⟩ : BufTy).Contents (Elt F) → (⟨S8x400x1, .i32⟩ : BufTy).Contents (Elt F)),
    StableHlo.nullary main_c_13 (constantI S_ 32 90#32),
    StableHlo.unary main_c_13 main_v50 (broadcastInDim S8x400x1 ![] bcast_S_S8x400x1 : (⟨S_, .i32⟩ : BufTy).Contents (Elt F) → (⟨S8x400x1, .i32⟩ : BufTy).Contents (Elt F)),
    StableHlo.binary main_v49 main_v50 main_v51 (addi : (⟨S8x400x1, .i32⟩ : BufTy).Contents (Elt F) → (⟨S8x400x1, .i32⟩ : BufTy).Contents (Elt F) → (⟨S8x400x1, .i32⟩ : BufTy).Contents (Elt F)),
    StableHlo.nullary main_c_14 (constantI S_ 32 360#32) ] ++
  remainderColOps (.of main_v51) (.of main_c_14) main_call4 ++
  [ StableHlo.nullary main_c_15 (constantI S_ 32 180#32),
    StableHlo.unary main_c_15 main_v53 (broadcastInDim S8x400x1 ![] bcast_S_S8x400x1 : (⟨S_, .i32⟩ : BufTy).Contents (Elt F) → (⟨S8x400x1, .i32⟩ : BufTy).Contents (Elt F)),
    StableHlo.binary main_v49 main_v53 main_v54 (addi : (⟨S8x400x1, .i32⟩ : BufTy).Contents (Elt F) → (⟨S8x400x1, .i32⟩ : BufTy).Contents (Elt F) → (⟨S8x400x1, .i32⟩ : BufTy).Contents (Elt F)),
    StableHlo.nullary main_c_16 (constantI S_ 32 360#32) ] ++
  remainderColOps (.of main_v54) (.of main_c_16) main_call5 ++
  [ StableHlo.nullary main_c_17 (constantI S_ 32 270#32),
    StableHlo.unary main_c_17 main_v56 (broadcastInDim S8x400x1 ![] bcast_S_S8x400x1 : (⟨S_, .i32⟩ : BufTy).Contents (Elt F) → (⟨S8x400x1, .i32⟩ : BufTy).Contents (Elt F)),
    StableHlo.binary main_v49 main_v56 main_v57 (addi : (⟨S8x400x1, .i32⟩ : BufTy).Contents (Elt F) → (⟨S8x400x1, .i32⟩ : BufTy).Contents (Elt F) → (⟨S8x400x1, .i32⟩ : BufTy).Contents (Elt F)),
    StableHlo.nullary main_c_18 (constantI S_ 32 360#32) ] ++
  remainderColOps (.of main_v57) (.of main_c_18) main_call6

/-- The four angles side by side, the scaled polygons and the confidence mask. -/
abbrev lastOps : List (HloOp τ sig (Elt F)) :=
  [ StableHlo.nary ![main_v49, main_v52, main_v55, main_v58] main_v59 (fun u => (concatenate S8x400x4 2 [⟨S8x400x1, (u 0 : (⟨S8x400x1, .i32⟩ : BufTy).Contents (Elt F))⟩, ⟨S8x400x1, (u 1 : (⟨S8x400x1, .i32⟩ : BufTy).Contents (Elt F))⟩, ⟨S8x400x1, (u 2 : (⟨S8x400x1, .i32⟩ : BufTy).Contents (Elt F))⟩, ⟨S8x400x1, (u 3 : (⟨S8x400x1, .i32⟩ : BufTy).Contents (Elt F))⟩] concatenates_S8x400x1_S8x400x1_S8x400x1_S8x400x1_S8x400x4_d2 : (⟨S8x400x4, .i32⟩ : BufTy).Contents (Elt F))),
    StableHlo.unary main_arg3 main_v60 ((extractStridedSlice S8x1 ![0, 1] · slices_S8x2_S8x1_0_1) : (⟨S8x2, .f32⟩ : BufTy).Contents (Elt F) → (⟨S8x1, .f32⟩ : BufTy).Contents (Elt F)),
    StableHlo.reshape main_v60 main_v61 (rfl : (.f32 : EltTy) = .f32) shapeCasts_S8x1_S8,
    StableHlo.unary main_v61 main_v62 (broadcastInDim S8x1 ![0] bcast_S8_S8x1_0 : (⟨S8, .f32⟩ : BufTy).Contents (Elt F) → (⟨S8x1, .f32⟩ : BufTy).Contents (Elt F)),
    StableHlo.unary main_v61 main_v63 (broadcastInDim S8x1 ![0] bcast_S8_S8x1_0 : (⟨S8, .f32⟩ : BufTy).Contents (Elt F) → (⟨S8x1, .f32⟩ : BufTy).Contents (Elt F)),
    StableHlo.unary main_v61 main_v64 (broadcastInDim S8x1 ![0] bcast_S8_S8x1_0 : (⟨S8, .f32⟩ : BufTy).Contents (Elt F) → (⟨S8x1, .f32⟩ : BufTy).Contents (Elt F)),
    StableHlo.unary main_v61 main_v65 (broadcastInDim S8x1 ![0] bcast_S8_S8x1_0 : (⟨S8, .f32⟩ : BufTy).Contents (Elt F) → (⟨S8x1, .f32⟩ : BufTy).Contents (Elt F)),
    StableHlo.unary main_v61 main_v66 (broadcastInDim S8x1 ![0] bcast_S8_S8x1_0 : (⟨S8, .f32⟩ : BufTy).Contents (Elt F) → (⟨S8x1, .f32⟩ : BufTy).Contents (Elt F)),
    StableHlo.unary main_v61 main_v67 (broadcastInDim S8x1 ![0] bcast_S8_S8x1_0 : (⟨S8, .f32⟩ : BufTy).Contents (Elt F) → (⟨S8x1, .f32⟩ : BufTy).Contents (Elt F)),
    StableHlo.unary main_v61 main_v68 (broadcastInDim S8x1 ![0] bcast_S8_S8x1_0 : (⟨S8, .f32⟩ : BufTy).Contents (Elt F) → (⟨S8x1, .f32⟩ : BufTy).Contents (Elt F)),
    StableHlo.unary main_v61 main_v69 (broadcastInDim S8x1 ![0] bcast_S8_S8x1_0 : (⟨S8, .f32⟩ : BufTy).Contents (Elt F) → (⟨S8x1, .f32⟩ : BufTy).Contents (Elt F)),
    StableHlo.unary main_v61 main_v70 (broadcastInDim S8x1 ![0] bcast_S8_S8x1_0 : (⟨S8, .f32⟩ : BufTy).Contents (Elt F) → (⟨S8x1, .f32⟩ : BufTy).Contents (Elt F)),
    StableHlo.unary main_v61 main_v71 (broadcastInDim S8x1 ![0] bcast_S8_S8x1_0 : (⟨S8, .f32⟩ : BufTy).Contents (Elt F) → (⟨S8x1, .f32⟩ : BufTy).Contents (Elt F)),
    StableHlo.unary main_v61 main_v72 (broadcastInDim S8x1 ![0] bcast_S8_S8x1_0 : (⟨S8, .f32⟩ : BufTy).Contents (Elt F) → (⟨S8x1, .f32⟩ : BufTy).Contents (Elt F)),
    StableHlo.unary main_v61 main_v73 (broadcastInDim S8x1 ![0] bcast_S8_S8x1_0 : (⟨S8, .f32⟩ : BufTy).Contents (Elt F) → (⟨S8x1, .f32⟩ : BufTy).Contents (Elt F)),
    StableHlo.unary main_v61 main_v74 (broadcastInDim S8x1 ![0] bcast_S8_S8x1_0 : (⟨S8, .f32⟩ : BufTy).Contents (Elt F) → (⟨S8x1, .f32⟩ : BufTy).Contents (Elt F)),
    StableHlo.nary ![main_v62, main_v63, main_v64, main_v65, main_v66, main_v67, main_v68, main_v69, main_v70, main_v71, main_v72, main_v73, main_v74] main_v75 (fun u => (concatenate S8x13 1 [⟨S8x1, (u 0 : (⟨S8x1, .f32⟩ : BufTy).Contents (Elt F))⟩, ⟨S8x1, (u 1 : (⟨S8x1, .f32⟩ : BufTy).Contents (Elt F))⟩, ⟨S8x1, (u 2 : (⟨S8x1, .f32⟩ : BufTy).Contents (Elt F))⟩, ⟨S8x1, (u 3 : (⟨S8x1, .f32⟩ : BufTy).Contents (Elt F))⟩, ⟨S8x1, (u 4 : (⟨S8x1, .f32⟩ : BufTy).Contents (Elt F))⟩, ⟨S8x1, (u 5 : (⟨S8x1, .f32⟩ : BufTy).Contents (Elt F))⟩, ⟨S8x1, (u 6 : (⟨S8x1, .f32⟩ : BufTy).Contents (Elt F))⟩, ⟨S8x1, (u 7 : (⟨S8x1, .f32⟩ : BufTy).Contents (Elt F))⟩, ⟨S8x1, (u 8 : (⟨S8x1, .f32⟩ : BufTy).Contents (Elt F))⟩, ⟨S8x1, (u 9 : (⟨S8x1, .f32⟩ : BufTy).Contents (Elt F))⟩, ⟨S8x1, (u 10 : (⟨S8x1, .f32⟩ : BufTy).Contents (Elt F))⟩, ⟨S8x1, (u 11 : (⟨S8x1, .f32⟩ : BufTy).Contents (Elt F))⟩, ⟨S8x1, (u 12 : (⟨S8x1, .f32⟩ : BufTy).Contents (Elt F))⟩] concatenates_S8x1_S8x1_S8x1_S8x1_S8x1_S8x1_S8x1_S8x1_S8x1_S8x1_S8x1_S8x1_S8x1_S8x13_d1 : (⟨S8x13, .f32⟩ : BufTy).Contents (Elt F))),
    StableHlo.unary main_v75 main_v76 (broadcastInDim S8x1x13x1 ![0, 2] bcast_S8x13_S8x1x13x1_0_2 : (⟨S8x13, .f32⟩ : BufTy).Contents (Elt F) → (⟨S8x1x13x1, .f32⟩ : BufTy).Contents (Elt F)),
    StableHlo.unary main_v76 main_v77 (broadcastInDim S8x400x13x2 ![0, 1, 2, 3] bcast_S8x1x13x1_S8x400x13x2_0_1_2_3 : (⟨S8x1x13x1, .f32⟩ : BufTy).Contents (Elt F) → (⟨S8x400x13x2, .f32⟩ : BufTy).Contents (Elt F)),
    StableHlo.binary main_v26 main_v77 main_v78 (mulf : (⟨S8x400x13x2, .f32⟩ : BufTy).Contents (Elt F) → (⟨S8x400x13x2, .f32⟩ : BufTy).Contents (Elt F) → (⟨S8x400x13x2, .f32⟩ : BufTy).Contents (Elt F)),
    StableHlo.nullary main_cst_19 (constant S_ .f32 0x3BA3D70A#32),
    StableHlo.unary main_cst_19 main_v79 (broadcastInDim S8x400 ![] bcast_S_S8x400 : (⟨S_, .f32⟩ : BufTy).Contents (Elt F) → (⟨S8x400, .f32⟩ : BufTy).Contents (Elt F)),
    StableHlo.binary main_values main_v79 main_v80 (cmpf .ogt : (⟨S8x400, .f32⟩ : BufTy).Contents (Elt F) → (⟨S8x400, .f32⟩ : BufTy).Contents (Elt F) → (⟨S8x400, .i1⟩ : BufTy).Contents (Elt F)) ]

/-- The operations of `main_part0`, each call's in its place. -/
abbrev part0Ops : List (HloOp τ sig (Elt F)) :=
  rowsOps ++ gatherOps

/-- The operations of `main_part1`, each call's in its place. -/
abbrev part1Ops : List (HloOp τ sig (Elt F)) :=
  scoresOps ++ anglesOps ++ lastOps

set_option maxHeartbeats 4000000 in
/-- The first part of the program is its list of operations. -/
theorem part0_eq (d : Dev nD) : (main_part0 d : HostProg F) = seq part0Ops := rfl

set_option maxHeartbeats 4000000 in
/-- The second part of the program is its list of operations. -/
theorem part1_eq (d : Dev nD) : (main_part1 d : HostProg F) = seq part1Ops := rfl

/-- The reference's operations, in order. -/
abbrev ops : List (HloOp τ sig (Elt F)) := part0Ops ++ part1Ops

/-- The program is the list of its operations. -/
theorem main_eq (d : Dev nD) : (main d : HostProg F) = seq ops := by
  exact (congrArg₂ (fun a b : HostProg F => a >>= fun _ => b) (part0_eq d) (part1_eq d)).trans (seq_append _ _).symm

/-- From any memory with zero counters the reference ends with every buffer at what its operations, in order, leave
    there. -/
theorem run (m : (ℓ : Loc nD τ sig) → Buf (Elt F) ℓ) (g : Dev nD → PrngReg) :
    θ_run (defs (F := F)) (onTc (τ := τ) (main (F := F))) ⟨m, fun _ => 0, g⟩ fun r =>
      ∀ (d : Dev nD) (b : Ref sig .tc), r.2.mem ((d.tc : Thread nD τ).loc b) = after ops (launchContents m d) (Proc.devRef .tc b) :=
  run_seq (by decide) (by decide) _ _ (fun _ => ops) main_eq (fun _ => by simp) m g

/-- No operation of the reference writes an argument. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) :=
  ⟨by after_reads_simp, by after_reads_simp, by after_reads_simp, by after_reads_simp⟩

/-- The program names no semaphore, so every counter of any memory is zero. -/
theorem counters_zero (s : MemSt nD τ sig (Elt F)) : s.sem = fun _ => 0 :=
  sem_eq_zero_of_no_sems (by decide) s

end Cert.ReferenceIdeal.Line

end
-- ==== Proof.Region.lean ====
/- What the idealized kernel's one pallas_call leaves in its result array: the logistic function of each logit. -/
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Region

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block of either window is the whole array at the grid's one point. -/
theorem index_zero : ∀ t : Fin cfg0.N, win0_0.index t = ![0, 0, 0] ∧ win0_1.index t = ![0, 0, 0] :=
  (by decide +kernel : ∀ t : Fin grid0.N, _)

/-- The grid's one point. -/
abbrev point : Fin cfg0.N := ⟨0, by decide +kernel⟩

/-- The block that the body reads is the array of logits. -/
theorem block_eq (c : Dev nD) : iblk m c 0 point = m ((c : Thread nD τ).loc main_arg0) := by
  blk_ext! [iblk, V, index_zero point]

/-- The pallas_call leaves the logistic function of the logits. -/
theorem final (c : Dev nD) : (dats m 0 c).arrAt 1 cfg0.N = logistic (m ((c : Thread nD τ).loc main_arg0) : FVec F S8x5000x16 .f32) := by
  refine (dats m 0 c).arrAt_eq_of_after_last 1 point (by decide +kernel) _ fun j => ?_
  blk_simp
  rw [after0_1]
  frame_out
  rw [block_eq]
  rfl

end Cert.KernelIdeal.Region

end
-- ==== Proof.Tail.lean ====
/- The host operations of the kernel and of the reference end with equal results. -/
module

public import proofs.«01_k».proof.Defs
public import proofs.«01_k».proof.Proof.Gen.KernelIdeal
public import proofs.«01_k».proof.Proof.Gen.KernelIdeal.Launch
public import proofs.«01_k».proof.Proof.RefLine
public import Idealize.ShloMosaic.Lib.StableHlo.RunRead
public import Idealize.ShloMosaic.Lib.IdealHost
public import Idealize.ShloMosaic.Lib.Pipeline.Frame

/-!
The two programs' host operations, read side by side over the extended reals. What the kernel runs after its region and
what the reference runs are cut into the same four stages: the 400 greatest class scores, each with its query and class;
the polygons and angle scores gathered for those queries; the best angle and its three quarter turns; the results put
together. Each stage, from contents that agree on what it reads, leaves contents that agree on what the next one reads.
The one difference of text is in the first: the kernel reads the class scores its region wrote, the logistic function of
the logits, and the reference computes one over one plus the exponential of the negated logits.
-/

@[expose] public section

set_option maxRecDepth 65536

noncomputable section

namespace Cert.Tail

open Idealize.ShloMosaic Idealize.ShloMosaic.TcCoe Idealize.ShloMosaic.StableHlo Idealize.SL.Sem

/-! ## Small facts -/

/-- Over the extended reals the host's one over one plus the exponential of the negation is the logistic function. -/
theorem sigmoid_eq {s : Shape} {d : Fin Cert.ReferenceIdeal.S_.rank → Fin s.rank} (hb : Cert.ReferenceIdeal.S_.BroadcastsInDim s d)
    (x : FVec Ideal s .f32) :
    Host.divf (broadcastInDim s d hb (constant Cert.ReferenceIdeal.S_ .f32 0x3F800000#32))
      (addf (broadcastInDim s d hb (constant Cert.ReferenceIdeal.S_ .f32 0x3F800000#32)) (Host.exp (Host.negf x))) = logistic x := by
  funext i
  have one : (FloatOps.ofBits .f32 0x3F800000#32 : Ideal .f32) = (1 : EReal) := Ideal.ofBits_one_f32
  show FloatOps.hostDivf (FloatOps.ofBits .f32 0x3F800000#32 : Ideal .f32)
    (FloatOps.addf (FloatOps.ofBits .f32 0x3F800000#32 : Ideal .f32) (FloatOps.hostUnary .exp (FloatOps.hostNegf (x i)))) = _
  rw [one]
  rfl

/-- Joining four parts along an axis depends on the parts alone. -/
theorem concatenate_four {α : Type} {t s : Shape} {n : Fin t.rank} {a b c d a' b' c' d' : s.Idx → α}
    (h) (ha : a = a') (hb : b = b') (hc : c = c') (hd : d = d') :
    concatenate t n [⟨s, a⟩, ⟨s, b⟩, ⟨s, c⟩, ⟨s, d⟩] h = concatenate t n [⟨s, a'⟩, ⟨s, b'⟩, ⟨s, c'⟩, ⟨s, d'⟩] (by subst ha hb hc hd; exact h) := by
  subst ha hb hc hd; rfl

/-- Two parts joined along an axis, as a function of the parts. -/
def joinTwo {α : Type} {t s₁ s₂ : Shape} {n : Fin t.rank} (h : Shape.Concatenates [s₁, s₂] t n) (a : s₁.Idx → α) (b : s₂.Idx → α) : t.Idx → α :=
  concatenate t n [⟨s₁, a⟩, ⟨s₂, b⟩] h

/-- Joining a list of two parts is `joinTwo` of the parts. -/
theorem concatenate_two {α : Type} {t s₁ s₂ : Shape} {n : Fin t.rank} (a : s₁.Idx → α) (b : s₂.Idx → α) (h) :
    concatenate t n [⟨s₁, a⟩, ⟨s₂, b⟩] h = joinTwo h a b := rfl

/-- Joining thirteen parts along an axis depends on the parts alone. -/
theorem concatenate_thirteen {α : Type} {t s : Shape} {n : Fin t.rank} {a b c d e f g h i j k l m a' b' c' d' e' f' g' h' i' j' k' l' m' : s.Idx → α}
    (hs : Shape.Concatenates (List.replicate 13 s) t n) (ha : a = a') (hb : b = b') (hc : c = c') (hd : d = d') (he : e = e') (hf : f = f') (hg : g = g') (hh : h = h') (hi : i = i') (hj : j = j') (hk : k = k') (hl : l = l') (hm : m = m') :
    concatenate t n [⟨s, a⟩, ⟨s, b⟩, ⟨s, c⟩, ⟨s, d⟩, ⟨s, e⟩, ⟨s, f⟩, ⟨s, g⟩, ⟨s, h⟩, ⟨s, i⟩, ⟨s, j⟩, ⟨s, k⟩, ⟨s, l⟩, ⟨s, m⟩] hs
      = concatenate t n [⟨s, a'⟩, ⟨s, b'⟩, ⟨s, c'⟩, ⟨s, d'⟩, ⟨s, e'⟩, ⟨s, f'⟩, ⟨s, g'⟩, ⟨s, h'⟩, ⟨s, i'⟩, ⟨s, j'⟩, ⟨s, k'⟩, ⟨s, l'⟩, ⟨s, m'⟩] hs := by
  subst ha hb hc hd he hf hg hh hi hj hk hl hm; rfl

/-! ## The stages -/

/-- The kernel's host operations after its region. -/
abbrev kernelOps : List (HloOp Cert.KernelIdeal.τ Cert.KernelIdeal.sig (Elt Ideal)) :=
  List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12]

/-- The kernel's first stage: the 400 greatest scores, each with its query and class. -/
abbrev rowsK : List (HloOp Cert.KernelIdeal.τ Cert.KernelIdeal.sig (Elt Ideal)) :=
  Cert.KernelIdeal.Gen.hostOps1 ++ Cert.KernelIdeal.Gen.hostOps1_1 ++ Cert.KernelIdeal.Gen.hostOps1_2 ++ Cert.KernelIdeal.Gen.hostOps1_3

/-- Its second: the polygons and the angle scores of those queries. -/
abbrev gatherK : List (HloOp Cert.KernelIdeal.τ Cert.KernelIdeal.sig (Elt Ideal)) := Cert.KernelIdeal.Gen.hostOps1_4

/-- Its third: the best angles and their quarter turns. -/
abbrev anglesK : List (HloOp Cert.KernelIdeal.τ Cert.KernelIdeal.sig (Elt Ideal)) :=
  Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11

/-- Its last: the angles side by side, the scaled polygons and the mask. -/
abbrev lastK : List (HloOp Cert.KernelIdeal.τ Cert.KernelIdeal.sig (Elt Ideal)) := Cert.KernelIdeal.Gen.hostOps1_12

/-- The reference's second stage. -/
abbrev gatherR : List (HloOp Cert.ReferenceIdeal.τ Cert.ReferenceIdeal.sig (Elt Ideal)) := Cert.ReferenceIdeal.Line.gatherOps ++ Cert.ReferenceIdeal.Line.scoresOps

/-- The kernel's host operations are its four stages in turn. -/
theorem kernelOps_eq : kernelOps = ((rowsK ++ gatherK) ++ anglesK) ++ lastK := by
  simp only [kernelOps, rowsK, gatherK, anglesK, lastK, List.flatten_cons, List.flatten_nil, List.append_assoc, List.append_nil]

/-- The reference's operations are its four stages in turn. -/
theorem referenceOps_eq : (Cert.ReferenceIdeal.Line.ops : List (HloOp _ _ (Elt Ideal))) = ((Cert.ReferenceIdeal.Line.rowsOps ++ gatherR) ++ Cert.ReferenceIdeal.Line.anglesOps) ++ Cert.ReferenceIdeal.Line.lastOps := by
  simp only [Cert.ReferenceIdeal.Line.ops, Cert.ReferenceIdeal.Line.part0Ops, Cert.ReferenceIdeal.Line.part1Ops, gatherR, List.append_assoc]

variable (W : Valuation Cert.KernelIdeal.τ Cert.KernelIdeal.sig (Elt Ideal))
  (W' : Valuation Cert.ReferenceIdeal.τ Cert.ReferenceIdeal.sig (Elt Ideal))

/-- What agrees before the first stage: the scores are the logistic function of the logits, the other arguments are equal. -/
structure Start (x0 : FVec Ideal Cert.KernelIdeal.S8x5000x16 .f32) : Prop where
  scores : W (Proc.devRef .tc Cert.KernelIdeal.main_v0) = logistic x0
  logits : W' (Proc.devRef .tc Cert.ReferenceIdeal.main_arg0) = x0
  arg1 : W (Proc.devRef .tc Cert.KernelIdeal.main_arg1) = W' (Proc.devRef .tc Cert.ReferenceIdeal.main_arg1)
  arg2 : W (Proc.devRef .tc Cert.KernelIdeal.main_arg2) = W' (Proc.devRef .tc Cert.ReferenceIdeal.main_arg2)
  arg3 : W (Proc.devRef .tc Cert.KernelIdeal.main_arg3) = W' (Proc.devRef .tc Cert.ReferenceIdeal.main_arg3)

/-- What agrees after the first stage. -/
structure Rows : Prop where
  values : W (Proc.devRef .tc Cert.KernelIdeal.main_values) = W' (Proc.devRef .tc Cert.ReferenceIdeal.main_values)
  labels : W (Proc.devRef .tc Cert.KernelIdeal.main_v3) = W' (Proc.devRef .tc Cert.ReferenceIdeal.main_v9)
  query : W (Proc.devRef .tc Cert.KernelIdeal.main_v2) = W' (Proc.devRef .tc Cert.ReferenceIdeal.main_v7)
  query' : W (Proc.devRef .tc Cert.KernelIdeal.main_v2) = W' (Proc.devRef .tc Cert.ReferenceIdeal.main_v8)
  arg1 : W (Proc.devRef .tc Cert.KernelIdeal.main_arg1) = W' (Proc.devRef .tc Cert.ReferenceIdeal.main_arg1)
  arg2 : W (Proc.devRef .tc Cert.KernelIdeal.main_arg2) = W' (Proc.devRef .tc Cert.ReferenceIdeal.main_arg2)
  arg3 : W (Proc.devRef .tc Cert.KernelIdeal.main_arg3) = W' (Proc.devRef .tc Cert.ReferenceIdeal.main_arg3)

/-- What agrees after the second. -/
structure Gathered : Prop where
  values : W (Proc.devRef .tc Cert.KernelIdeal.main_values) = W' (Proc.devRef .tc Cert.ReferenceIdeal.main_values)
  labels : W (Proc.devRef .tc Cert.KernelIdeal.main_v3) = W' (Proc.devRef .tc Cert.ReferenceIdeal.main_v9)
  polys : W (Proc.devRef .tc Cert.KernelIdeal.main_v20) = W' (Proc.devRef .tc Cert.ReferenceIdeal.main_v26)
  angleScores : W (Proc.devRef .tc Cert.KernelIdeal.main_v41) = W' (Proc.devRef .tc Cert.ReferenceIdeal.main_v47)
  arg3 : W (Proc.devRef .tc Cert.KernelIdeal.main_arg3) = W' (Proc.devRef .tc Cert.ReferenceIdeal.main_arg3)

/-- What agrees after the third. -/
structure Angles : Prop where
  values : W (Proc.devRef .tc Cert.KernelIdeal.main_values) = W' (Proc.devRef .tc Cert.ReferenceIdeal.main_values)
  labels : W (Proc.devRef .tc Cert.KernelIdeal.main_v3) = W' (Proc.devRef .tc Cert.ReferenceIdeal.main_v9)
  polys : W (Proc.devRef .tc Cert.KernelIdeal.main_v20) = W' (Proc.devRef .tc Cert.ReferenceIdeal.main_v26)
  turn0 : W (Proc.devRef .tc Cert.KernelIdeal.main_v43) = W' (Proc.devRef .tc Cert.ReferenceIdeal.main_v49)
  turn1 : W (Proc.devRef .tc Cert.KernelIdeal.main_v46) = W' (Proc.devRef .tc Cert.ReferenceIdeal.main_v52)
  turn2 : W (Proc.devRef .tc Cert.KernelIdeal.main_v49) = W' (Proc.devRef .tc Cert.ReferenceIdeal.main_v55)
  turn3 : W (Proc.devRef .tc Cert.KernelIdeal.main_v52) = W' (Proc.devRef .tc Cert.ReferenceIdeal.main_v58)
  arg3 : W (Proc.devRef .tc Cert.KernelIdeal.main_arg3) = W' (Proc.devRef .tc Cert.ReferenceIdeal.main_arg3)

/-- What agrees at the end: the five results. -/
structure Finished : Prop where
  values : W (Proc.devRef .tc Cert.KernelIdeal.main_values) = W' (Proc.devRef .tc Cert.ReferenceIdeal.main_values)
  labels : W (Proc.devRef .tc Cert.KernelIdeal.main_v3) = W' (Proc.devRef .tc Cert.ReferenceIdeal.main_v9)
  polys : W (Proc.devRef .tc Cert.KernelIdeal.main_v72) = W' (Proc.devRef .tc Cert.ReferenceIdeal.main_v78)
  angles : W (Proc.devRef .tc Cert.KernelIdeal.main_v53) = W' (Proc.devRef .tc Cert.ReferenceIdeal.main_v59)
  mask : W (Proc.devRef .tc Cert.KernelIdeal.main_v74) = W' (Proc.devRef .tc Cert.ReferenceIdeal.main_v80)

variable {W W'}

/-- The first stage. -/
theorem rows {x0 : FVec Ideal Cert.KernelIdeal.S8x5000x16 .f32} (h : Start W W' x0) : Rows (after rowsK W) (after Cert.ReferenceIdeal.Line.rowsOps W') where
  values := by
    after_reads_simp [concatenate_two, unaryIndexed_result', binaryIndexed_result', TRef.ofBuf_toBuf]
    rw [h.scores, h.logits, sigmoid_eq]
    rfl
  labels := by
    after_reads_simp [concatenate_two, unaryIndexed_result', binaryIndexed_result', TRef.ofBuf_toBuf]
    rw [h.scores, h.logits, sigmoid_eq]
    rfl
  query := by
    after_reads_simp [concatenate_two, unaryIndexed_result', binaryIndexed_result', TRef.ofBuf_toBuf]
    rw [h.scores, h.logits, sigmoid_eq]
    rfl
  query' := by
    after_reads_simp [concatenate_two, unaryIndexed_result', binaryIndexed_result', TRef.ofBuf_toBuf]
    rw [h.scores, h.logits, sigmoid_eq]
    rfl
  arg1 := by
    have hk : after rowsK W (Proc.devRef .tc Cert.KernelIdeal.main_arg1) = W (Proc.devRef .tc Cert.KernelIdeal.main_arg1) := by after_reads_simp
    have hr : after Cert.ReferenceIdeal.Line.rowsOps W' (Proc.devRef .tc Cert.ReferenceIdeal.main_arg1) = W' (Proc.devRef .tc Cert.ReferenceIdeal.main_arg1) := by after_reads_simp
    exact hk.trans (h.arg1.trans hr.symm)
  arg2 := by
    have hk : after rowsK W (Proc.devRef .tc Cert.KernelIdeal.main_arg2) = W (Proc.devRef .tc Cert.KernelIdeal.main_arg2) := by after_reads_simp
    have hr : after Cert.ReferenceIdeal.Line.rowsOps W' (Proc.devRef .tc Cert.ReferenceIdeal.main_arg2) = W' (Proc.devRef .tc Cert.ReferenceIdeal.main_arg2) := by after_reads_simp
    exact hk.trans (h.arg2.trans hr.symm)
  arg3 := by
    have hk : after rowsK W (Proc.devRef .tc Cert.KernelIdeal.main_arg3) = W (Proc.devRef .tc Cert.KernelIdeal.main_arg3) := by after_reads_simp
    have hr : after Cert.ReferenceIdeal.Line.rowsOps W' (Proc.devRef .tc Cert.ReferenceIdeal.main_arg3) = W' (Proc.devRef .tc Cert.ReferenceIdeal.main_arg3) := by after_reads_simp
    exact hk.trans (h.arg3.trans hr.symm)

/-- The second stage. -/
theorem gathered (h : Rows W W') : Gathered (after gatherK W) (after gatherR W') where
  values := by
    have hk : after gatherK W (Proc.devRef .tc Cert.KernelIdeal.main_values) = W (Proc.devRef .tc Cert.KernelIdeal.main_values) := by after_reads_simp
    have hr : after gatherR W' (Proc.devRef .tc Cert.ReferenceIdeal.main_values) = W' (Proc.devRef .tc Cert.ReferenceIdeal.main_values) := by after_reads_simp
    exact hk.trans (h.values.trans hr.symm)
  labels := by
    have hk : after gatherK W (Proc.devRef .tc Cert.KernelIdeal.main_v3) = W (Proc.devRef .tc Cert.KernelIdeal.main_v3) := by after_reads_simp
    have hr : after gatherR W' (Proc.devRef .tc Cert.ReferenceIdeal.main_v9) = W' (Proc.devRef .tc Cert.ReferenceIdeal.main_v9) := by after_reads_simp
    exact hk.trans (h.labels.trans hr.symm)
  polys := by
    obtain ⟨q, kq, rq⟩ : ∃ q : IVec Cert.KernelIdeal.S8x400 32, W (Proc.devRef .tc Cert.KernelIdeal.main_v2) = q ∧ W' (Proc.devRef .tc Cert.ReferenceIdeal.main_v7) = q := ⟨_, h.query, rfl⟩
    obtain ⟨x, kx, rx⟩ : ∃ x : FVec Ideal Cert.KernelIdeal.S8x5000x13x2 .f32, W (Proc.devRef .tc Cert.KernelIdeal.main_arg1) = x ∧ W' (Proc.devRef .tc Cert.ReferenceIdeal.main_arg1) = x := ⟨_, h.arg1, rfl⟩
    after_reads_simp [concatenate_two, unaryIndexed_result', binaryIndexed_result', TRef.ofBuf_toBuf]
    rw [kq, rq, kx, rx]
    rfl
  angleScores := by
    obtain ⟨q, kq, rq⟩ : ∃ q : IVec Cert.KernelIdeal.S8x400 32, W (Proc.devRef .tc Cert.KernelIdeal.main_v2) = q ∧ W' (Proc.devRef .tc Cert.ReferenceIdeal.main_v8) = q := ⟨_, h.query', rfl⟩
    obtain ⟨x, kx, rx⟩ : ∃ x : FVec Ideal Cert.KernelIdeal.S8x5000x360 .f32, W (Proc.devRef .tc Cert.KernelIdeal.main_arg2) = x ∧ W' (Proc.devRef .tc Cert.ReferenceIdeal.main_arg2) = x := ⟨_, h.arg2, rfl⟩
    after_reads_simp [concatenate_two, unaryIndexed_result', binaryIndexed_result', TRef.ofBuf_toBuf]
    rw [kq, rq, kx, rx]
    rfl
  arg3 := by
    have hk : after gatherK W (Proc.devRef .tc Cert.KernelIdeal.main_arg3) = W (Proc.devRef .tc Cert.KernelIdeal.main_arg3) := by after_reads_simp
    have hr : after gatherR W' (Proc.devRef .tc Cert.ReferenceIdeal.main_arg3) = W' (Proc.devRef .tc Cert.ReferenceIdeal.main_arg3) := by after_reads_simp
    exact hk.trans (h.arg3.trans hr.symm)

/-- The third stage. -/
theorem angles (h : Gathered W W') : Angles (after anglesK W) (after Cert.ReferenceIdeal.Line.anglesOps W') where
  values := by
    have hk : after anglesK W (Proc.devRef .tc Cert.KernelIdeal.main_values) = W (Proc.devRef .tc Cert.KernelIdeal.main_values) := by after_reads_simp
    have hr : after Cert.ReferenceIdeal.Line.anglesOps W' (Proc.devRef .tc Cert.ReferenceIdeal.main_values) = W' (Proc.devRef .tc Cert.ReferenceIdeal.main_values) := by after_reads_simp
    exact hk.trans (h.values.trans hr.symm)
  labels := by
    have hk : after anglesK W (Proc.devRef .tc Cert.KernelIdeal.main_v3) = W (Proc.devRef .tc Cert.KernelIdeal.main_v3) := by after_reads_simp
    have hr : after Cert.ReferenceIdeal.Line.anglesOps W' (Proc.devRef .tc Cert.ReferenceIdeal.main_v9) = W' (Proc.devRef .tc Cert.ReferenceIdeal.main_v9) := by after_reads_simp
    exact hk.trans (h.labels.trans hr.symm)
  polys := by
    have hk : after anglesK W (Proc.devRef .tc Cert.KernelIdeal.main_v20) = W (Proc.devRef .tc Cert.KernelIdeal.main_v20) := by after_reads_simp
    have hr : after Cert.ReferenceIdeal.Line.anglesOps W' (Proc.devRef .tc Cert.ReferenceIdeal.main_v26) = W' (Proc.devRef .tc Cert.ReferenceIdeal.main_v26) := by after_reads_simp
    exact hk.trans (h.polys.trans hr.symm)
  turn0 := by
    obtain ⟨s, ks, rs⟩ : ∃ s : FVec Ideal Cert.KernelIdeal.S8x400x360 .f32, W (Proc.devRef .tc Cert.KernelIdeal.main_v41) = s ∧ W' (Proc.devRef .tc Cert.ReferenceIdeal.main_v47) = s := ⟨_, h.angleScores, rfl⟩
    after_reads_simp [concatenate_two, unaryIndexed_result', binaryIndexed_result', TRef.ofBuf_toBuf]
    rw [ks, rs]
    rfl
  turn1 := by
    obtain ⟨s, ks, rs⟩ : ∃ s : FVec Ideal Cert.KernelIdeal.S8x400x360 .f32, W (Proc.devRef .tc Cert.KernelIdeal.main_v41) = s ∧ W' (Proc.devRef .tc Cert.ReferenceIdeal.main_v47) = s := ⟨_, h.angleScores, rfl⟩
    after_reads_simp [concatenate_two, unaryIndexed_result', binaryIndexed_result', TRef.ofBuf_toBuf]
    rw [ks, rs]
    rfl
  turn2 := by
    obtain ⟨s, ks, rs⟩ : ∃ s : FVec Ideal Cert.KernelIdeal.S8x400x360 .f32, W (Proc.devRef .tc Cert.KernelIdeal.main_v41) = s ∧ W' (Proc.devRef .tc Cert.ReferenceIdeal.main_v47) = s := ⟨_, h.angleScores, rfl⟩
    after_reads_simp [concatenate_two, unaryIndexed_result', binaryIndexed_result', TRef.ofBuf_toBuf]
    rw [ks, rs]
    rfl
  turn3 := by
    obtain ⟨s, ks, rs⟩ : ∃ s : FVec Ideal Cert.KernelIdeal.S8x400x360 .f32, W (Proc.devRef .tc Cert.KernelIdeal.main_v41) = s ∧ W' (Proc.devRef .tc Cert.ReferenceIdeal.main_v47) = s := ⟨_, h.angleScores, rfl⟩
    after_reads_simp [concatenate_two, unaryIndexed_result', binaryIndexed_result', TRef.ofBuf_toBuf]
    rw [ks, rs]
    rfl
  arg3 := by
    have hk : after anglesK W (Proc.devRef .tc Cert.KernelIdeal.main_arg3) = W (Proc.devRef .tc Cert.KernelIdeal.main_arg3) := by after_reads_simp
    have hr : after Cert.ReferenceIdeal.Line.anglesOps W' (Proc.devRef .tc Cert.ReferenceIdeal.main_arg3) = W' (Proc.devRef .tc Cert.ReferenceIdeal.main_arg3) := by after_reads_simp
    exact hk.trans (h.arg3.trans hr.symm)

/-- The last stage. -/
theorem finished (h : Angles W W') : Finished (after lastK W) (after Cert.ReferenceIdeal.Line.lastOps W') where
  values := by
    have hk : after lastK W (Proc.devRef .tc Cert.KernelIdeal.main_values) = W (Proc.devRef .tc Cert.KernelIdeal.main_values) := by after_reads_simp
    have hr : after Cert.ReferenceIdeal.Line.lastOps W' (Proc.devRef .tc Cert.ReferenceIdeal.main_values) = W' (Proc.devRef .tc Cert.ReferenceIdeal.main_values) := by after_reads_simp
    exact hk.trans (h.values.trans hr.symm)
  labels := by
    have hk : after lastK W (Proc.devRef .tc Cert.KernelIdeal.main_v3) = W (Proc.devRef .tc Cert.KernelIdeal.main_v3) := by after_reads_simp
    have hr : after Cert.ReferenceIdeal.Line.lastOps W' (Proc.devRef .tc Cert.ReferenceIdeal.main_v9) = W' (Proc.devRef .tc Cert.ReferenceIdeal.main_v9) := by after_reads_simp
    exact hk.trans (h.labels.trans hr.symm)
  polys := by
    obtain ⟨x, kx, rx⟩ : ∃ x : FVec Ideal Cert.KernelIdeal.S8x2 .f32, W (Proc.devRef .tc Cert.KernelIdeal.main_arg3) = x ∧ W' (Proc.devRef .tc Cert.ReferenceIdeal.main_arg3) = x := ⟨_, h.arg3, rfl⟩
    have p0 : upto lastK W 16 (Proc.devRef .tc Cert.KernelIdeal.main_v56) = upto Cert.ReferenceIdeal.Line.lastOps W' 16 (Proc.devRef .tc Cert.ReferenceIdeal.main_v62) := by
      after_reads_simp
      rw [kx, rx]
      rfl
    have p1 : upto lastK W 16 (Proc.devRef .tc Cert.KernelIdeal.main_v57) = upto Cert.ReferenceIdeal.Line.lastOps W' 16 (Proc.devRef .tc Cert.ReferenceIdeal.main_v63) := by
      after_reads_simp
      rw [kx, rx]
      rfl
    have p2 : upto lastK W 16 (Proc.devRef .tc Cert.KernelIdeal.main_v58) = upto Cert.ReferenceIdeal.Line.lastOps W' 16 (Proc.devRef .tc Cert.ReferenceIdeal.main_v64) := by
      after_reads_simp
      rw [kx, rx]
      rfl
    have p3 : upto lastK W 16 (Proc.devRef .tc Cert.KernelIdeal.main_v59) = upto Cert.ReferenceIdeal.Line.lastOps W' 16 (Proc.devRef .tc Cert.ReferenceIdeal.main_v65) := by
      after_reads_simp
      rw [kx, rx]
      rfl
    have p4 : upto lastK W 16 (Proc.devRef .tc Cert.KernelIdeal.main_v60) = upto Cert.ReferenceIdeal.Line.lastOps W' 16 (Proc.devRef .tc Cert.ReferenceIdeal.main_v66) := by
      after_reads_simp
      rw [kx, rx]
      rfl
    have p5 : upto lastK W 16 (Proc.devRef .tc Cert.KernelIdeal.main_v61) = upto Cert.ReferenceIdeal.Line.lastOps W' 16 (Proc.devRef .tc Cert.ReferenceIdeal.main_v67) := by
      after_reads_simp
      rw [kx, rx]
      rfl
    have p6 : upto lastK W 16 (Proc.devRef .tc Cert.KernelIdeal.main_v62) = upto Cert.ReferenceIdeal.Line.lastOps W' 16 (Proc.devRef .tc Cert.ReferenceIdeal.main_v68) := by
      after_reads_simp
      rw [kx, rx]
      rfl
    have p7 : upto lastK W 16 (Proc.devRef .tc Cert.KernelIdeal.main_v63) = upto Cert.ReferenceIdeal.Line.lastOps W' 16 (Proc.devRef .tc Cert.ReferenceIdeal.main_v69) := by
      after_reads_simp
      rw [kx, rx]
      rfl
    have p8 : upto lastK W 16 (Proc.devRef .tc Cert.KernelIdeal.main_v64) = upto Cert.ReferenceIdeal.Line.lastOps W' 16 (Proc.devRef .tc Cert.ReferenceIdeal.main_v70) := by
      after_reads_simp
      rw [kx, rx]
      rfl
    have p9 : upto lastK W 16 (Proc.devRef .tc Cert.KernelIdeal.main_v65) = upto Cert.ReferenceIdeal.Line.lastOps W' 16 (Proc.devRef .tc Cert.ReferenceIdeal.main_v71) := by
      after_reads_simp
      rw [kx, rx]
      rfl
    have p10 : upto lastK W 16 (Proc.devRef .tc Cert.KernelIdeal.main_v66) = upto Cert.ReferenceIdeal.Line.lastOps W' 16 (Proc.devRef .tc Cert.ReferenceIdeal.main_v72) := by
      after_reads_simp
      rw [kx, rx]
      rfl
    have p11 : upto lastK W 16 (Proc.devRef .tc Cert.KernelIdeal.main_v67) = upto Cert.ReferenceIdeal.Line.lastOps W' 16 (Proc.devRef .tc Cert.ReferenceIdeal.main_v73) := by
      after_reads_simp
      rw [kx, rx]
      rfl
    have p12 : upto lastK W 16 (Proc.devRef .tc Cert.KernelIdeal.main_v68) = upto Cert.ReferenceIdeal.Line.lastOps W' 16 (Proc.devRef .tc Cert.ReferenceIdeal.main_v74) := by
      after_reads_simp
      rw [kx, rx]
      rfl
    after_reads_simp
    exact congrArg₂ (fun a s => mulf a (broadcastInDim _ _ _ (broadcastInDim _ _ _ s))) h.polys (concatenate_thirteen _ p0 p1 p2 p3 p4 p5 p6 p7 p8 p9 p10 p11 p12)
  angles := by
    have p0 : upto lastK W 0 (Proc.devRef .tc Cert.KernelIdeal.main_v43) = upto Cert.ReferenceIdeal.Line.lastOps W' 0 (Proc.devRef .tc Cert.ReferenceIdeal.main_v49) := h.turn0
    have p1 : upto lastK W 0 (Proc.devRef .tc Cert.KernelIdeal.main_v46) = upto Cert.ReferenceIdeal.Line.lastOps W' 0 (Proc.devRef .tc Cert.ReferenceIdeal.main_v52) := h.turn1
    have p2 : upto lastK W 0 (Proc.devRef .tc Cert.KernelIdeal.main_v49) = upto Cert.ReferenceIdeal.Line.lastOps W' 0 (Proc.devRef .tc Cert.ReferenceIdeal.main_v55) := h.turn2
    have p3 : upto lastK W 0 (Proc.devRef .tc Cert.KernelIdeal.main_v52) = upto Cert.ReferenceIdeal.Line.lastOps W' 0 (Proc.devRef .tc Cert.ReferenceIdeal.main_v58) := h.turn3
    after_reads_simp
    exact concatenate_four _ p0 p1 p2 p3
  mask := by
    obtain ⟨v, kv, rv⟩ : ∃ v : FVec Ideal Cert.KernelIdeal.S8x400 .f32, W (Proc.devRef .tc Cert.KernelIdeal.main_values) = v ∧ W' (Proc.devRef .tc Cert.ReferenceIdeal.main_values) = v := ⟨_, h.values, rfl⟩
    after_reads_simp [concatenate_two, unaryIndexed_result', binaryIndexed_result', TRef.ofBuf_toBuf]
    rw [kv, rv]

/-- From contents where the kernel's scores are the logistic function of the reference's logits and the other arguments
    agree, the two programs' host operations end with the five results equal. -/
theorem results {x0 : FVec Ideal Cert.KernelIdeal.S8x5000x16 .f32} (h : Start W W' x0) :
    Finished (after kernelOps W) (after Cert.ReferenceIdeal.Line.ops W') := by
  rw [kernelOps_eq, referenceOps_eq]
  rw [after_append _ lastK, after_append _ anglesK, after_append rowsK gatherK,
    after_append _ Cert.ReferenceIdeal.Line.lastOps, after_append _ Cert.ReferenceIdeal.Line.anglesOps,
    after_append Cert.ReferenceIdeal.Line.rowsOps gatherR]
  exact finished (angles (gathered (rows h)))

end Cert.Tail

end
-- ==== Proof.lean ====
/- The five claims of `Cert.Claim`. The two frames of the kernel are the generated ones. The reference's frame and the
   equality of the results read both programs' host operations (Proof/RefLine.lean, Proof/Tail.lean) and what the
   kernel's one region leaves (Proof/Region.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefLine
public import proofs.«01_k».proof.Proof.Region
public import proofs.«01_k».proof.Proof.Tail
public import Idealize.ShloMosaic.Lib.Claim
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- The kernel's buffers when its region ends: the region's arrays as it leaves them, every other buffer as launched. -/
abbrev regionEnd (m : (ℓ : Loc Cert.KernelIdeal.nD Cert.KernelIdeal.τ Cert.KernelIdeal.sig) → Buf (Elt Ideal) ℓ) (c : Dev Cert.KernelIdeal.nD) :
    Valuation Cert.KernelIdeal.τ Cert.KernelIdeal.sig (Elt Ideal) :=
  Pipeline.withArrays Cert.KernelIdeal.spec0 c (Cert.KernelIdeal.Gen.V0 m c) fun w =>
    (Cert.KernelIdeal.Gen.dats m 0 c).arrAt w Cert.KernelIdeal.cfg0.N

/-- When the region ends, the kernel's buffers and the reference's at launch agree as the host operations need. -/
theorem start (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Tail.Start (regionEnd m c) (StableHlo.launchContents m' c) (m ((c.tc : Thread Cert.KernelIdeal.nD Cert.KernelIdeal.τ).loc Cert.KernelIdeal.main_arg0)) where
  scores := (Pipeline.withArrays_arr Cert.KernelIdeal.spec0 (by decide) c _ _ 1).trans (Cert.KernelIdeal.Region.final m c)
  logits := h0
  arg1 := (Pipeline.withArrays_of_ne Cert.KernelIdeal.spec0 c _ _ Cert.KernelIdeal.main_arg1 (by decide)).trans h1.symm
  arg2 := (Pipeline.withArrays_of_ne Cert.KernelIdeal.spec0 c _ _ Cert.KernelIdeal.main_arg2 (by decide)).trans h2.symm
  arg3 := (Pipeline.withArrays_of_ne Cert.KernelIdeal.spec0 c _ _ Cert.KernelIdeal.main_arg3 (by decide)).trans h3.symm

/-- A buffer outside the region ends at what the host operations leave of the region's end. -/
theorem kernel_ends (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r =>
      ∀ (c : Dev Cert.KernelIdeal.nD), ∀ b ∈ Pipeline.restRefs Cert.KernelIdeal.sig Cert.KernelIdeal.spec0,
        r.2.mem ((c.tc : Thread Cert.KernelIdeal.nD Cert.KernelIdeal.τ).loc b) = StableHlo.after Cert.Tail.kernelOps (regionEnd m c) (Proc.devRef .tc b) :=
  (θ_run _ _ _).mono (fun _ h c b hb => (h c).2 b hb) (Cert.KernelIdeal.Gen.run_main m g)

/-- The reference terminates, its arguments end unchanged and every semaphore counter is zero. -/
theorem reference_frame : Cert.quiescent_ReferenceIdeal (hReferenceIdeal := Cert.ReferenceIdeal.Gen.facts) := fun m g _ =>
  (θ_run _ _ _).mono (fun r h => ⟨fun c =>
    have k := Cert.ReferenceIdeal.Line.args_kept (StableHlo.launchContents m c)
    ⟨(h c _).trans k.1, (h c _).trans k.2.1, (h c _).trans k.2.2.1, (h c _).trans k.2.2.2⟩,
    Cert.ReferenceIdeal.Line.counters_zero r.2⟩) (Cert.ReferenceIdeal.Line.run m g)

/-- From equal arguments the two programs end with all five results equal. -/
theorem results_equal : Cert.algebraic_KernelIdeal_ReferenceIdeal (hKernelIdeal := Cert.KernelIdeal.Gen.facts)
    (hReferenceIdeal := Cert.ReferenceIdeal.Gen.facts) := by
  intro m g m' g' _ hagree
  have fin := fun c => Cert.Tail.results (start m m' c (hagree c).1 (hagree c).2.1 (hagree c).2.2.1 (hagree c).2.2.2)
  refine ⟨fun c => StableHlo.after Cert.Tail.kernelOps (regionEnd m c) (Proc.devRef .tc Cert.KernelIdeal.main_values),
    fun c => StableHlo.after Cert.Tail.kernelOps (regionEnd m c) (Proc.devRef .tc Cert.KernelIdeal.main_v3),
    fun c => StableHlo.after Cert.Tail.kernelOps (regionEnd m c) (Proc.devRef .tc Cert.KernelIdeal.main_v72),
    fun c => StableHlo.after Cert.Tail.kernelOps (regionEnd m c) (Proc.devRef .tc Cert.KernelIdeal.main_v53),
    fun c => StableHlo.after Cert.Tail.kernelOps (regionEnd m c) (Proc.devRef .tc Cert.KernelIdeal.main_v74), ?_, ?_⟩
  · refine (θ_run _ _ _).mono (fun r h c => ?_) (θ_run_and (kernel_ends m g) (Cert.KernelIdeal.Gen.unchanged m g))
    have e := h.1 c
    exact ⟨e _ (Pipeline.mem_restRefs_of _ (by decide) (by decide)), e _ (Pipeline.mem_restRefs_of _ (by decide) (by decide)),
      e _ (Pipeline.mem_restRefs_of _ (by decide) (by decide)), e _ (Pipeline.mem_restRefs_of _ (by decide) (by decide)),
      e _ (Pipeline.mem_restRefs_of _ (by decide) (by decide)), h.2 c⟩
  · refine (θ_run _ _ _).mono (fun r h c => ?_) (Cert.ReferenceIdeal.Line.run m' g')
    have k := Cert.ReferenceIdeal.Line.args_kept (StableHlo.launchContents m' c)
    exact ⟨(h c _).trans (fin c).values.symm, (h c _).trans (fin c).labels.symm, (h c _).trans (fin c).polys.symm,
      (h c _).trans (fin c).angles.symm, (h c _).trans (fin c).mask.symm,
      (h c _).trans k.1, (h c _).trans k.2.1, (h c _).trans k.2.2.1, (h c _).trans k.2.2.2⟩

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, results_equal⟩

end Cert.Proof

end
